-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_nonnegative [hPre_sizes_nonnegative : Cert.Pre_sizes_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_nonnegative [hPre_sizes_nonnegative : Cert.Pre_sizes_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sizes_nonnegative [hKernelIdeal : Cert.KernelIdeal.Facts] [hPre_sizes_nonnegative : Cert.Pre_sizes_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sizes_nonnegative [hReferenceIdeal : Cert.ReferenceIdeal.Facts] [hPre_sizes_nonnegative : Cert.Pre_sizes_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sizes_nonnegative [hKernelIdeal : Cert.KernelIdeal.Facts] [hReferenceIdeal : Cert.ReferenceIdeal.Facts] [hPre_sizes_nonnegative : Cert.Pre_sizes_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sizes_nonnegative : Cert.Pre_sizes_nonnegative.Facts),
    quiescent_Kernel (hKernel := hKernel)
    ∧ quiescent_KernelIdeal (hKernelIdeal := hKernelIdeal)
    ∧ quiescent_KernelIdeal_pre_sizes_nonnegative (hKernelIdeal := hKernelIdeal) (hPre_sizes_nonnegative := hPre_sizes_nonnegative)
    ∧ quiescent_ReferenceIdeal (hReferenceIdeal := hReferenceIdeal)
    ∧ quiescent_ReferenceIdeal_pre_sizes_nonnegative (hReferenceIdeal := hReferenceIdeal) (hPre_sizes_nonnegative := hPre_sizes_nonnegative)
    ∧ preserves_Kernel_KernelIdeal
    ∧ algebraic_KernelIdeal_ReferenceIdeal_pre_sizes_nonnegative (hKernelIdeal := hKernelIdeal) (hReferenceIdeal := hReferenceIdeal) (hPre_sizes_nonnegative := hPre_sizes_nonnegative)
-- ==== Pre_sizes_nonnegative.lean ====
abbrev S8x20000x4 : Shape := ⟨3, ![8, 20000, 4]⟩
abbrev S8x20000x80 : Shape := ⟨3, ![8, 20000, 80]⟩
abbrev S8x2 : Shape := ⟨2, ![8, 2]⟩
abbrev S_ : Shape := ⟨0, ![]⟩

class Facts : Prop where
  bcast_S_S8x2 : S_.BroadcastsInDim S8x2 (![] : Fin 0 → Fin S8x2.rank)
  reducesTo_S8x2_S_d0_1 : S8x2.ReducesTo [0, 1] S_
  h_S_ : 0 < S_.numel

variable [Facts]

def fn {F : FTy → Type} [FloatOps F] (main_arg0 : FVec F S8x20000x4 .f32) (main_arg1 : FVec F S8x20000x80 .f32) (main_arg2 : FVec F S8x2 .f32) : IVec S_ 1 :=
  let main_cst : FVec F S_ .f32 := constant S_ .f32 0x00000000#32
  let main_v0 : FVec F S8x2 .f32 := broadcastInDim S8x2 ![] bcast_S_S8x2 main_cst
  let main_v1 : IVec S8x2 1 := cmpf .oge main_arg2 main_v0
  let main_c : IVec S_ 1 := constantI S_ 1 1#1
  let main_v2 : IVec S_ 1 := (fun x v => Host.reduce IntOp.andi x v reducesTo_S8x2_S_d0_1 h_S_) main_v1 main_c
  main_v2
-- ==== Kernel.lean ====
abbrev S8x20000x4 : Shape := ⟨3, ![8, 20000, 4]⟩
abbrev S8x20000x80 : Shape := ⟨3, ![8, 20000, 80]⟩
abbrev S8x2 : Shape := ⟨2, ![8, 2]⟩
abbrev S8x20000x1 : Shape := ⟨3, ![8, 20000, 1]⟩
abbrev S1x2000x4 : Shape := ⟨3, ![1, 2000, 4]⟩
abbrev S1x2000x80 : Shape := ⟨3, ![1, 2000, 80]⟩
abbrev S1x2000x1 : Shape := ⟨3, ![1, 2000, 1]⟩
abbrev S2000x4 : Shape := ⟨2, ![2000, 4]⟩
abbrev S2000x80 : Shape := ⟨2, ![2000, 80]⟩
abbrev S1x2 : Shape := ⟨2, ![1, 2]⟩
abbrev S1x1x2 : Shape := ⟨3, ![1, 1, 2]⟩
abbrev S1 : Shape := ⟨1, ![1]⟩
abbrev S1x1x1 : Shape := ⟨3, ![1, 1, 1]⟩
abbrev S1x4 : Shape := ⟨2, ![1, 4]⟩
abbrev S2000 : Shape := ⟨1, ![2000]⟩
abbrev S2000x1 : Shape := ⟨2, ![2000, 1]⟩
abbrev S8x20000 : Shape := ⟨2, ![8, 20000]⟩
abbrev S8x1000 : Shape := ⟨2, ![8, 1000]⟩
abbrev S8x1000x1 : Shape := ⟨3, ![8, 1000, 1]⟩
abbrev S_ : Shape := ⟨0, ![]⟩
abbrev S8x1000x4 : Shape := ⟨3, ![8, 1000, 4]⟩
abbrev S8x4x1000 : Shape := ⟨3, ![8, 4, 1000]⟩
abbrev S8x1x1000 : Shape := ⟨3, ![8, 1, 1000]⟩
abbrev S1x1000x4 : Shape := ⟨3, ![1, 1000, 4]⟩
abbrev S1x4x1000 : Shape := ⟨3, ![1, 4, 1000]⟩
abbrev S1x1x1000 : Shape := ⟨3, ![1, 1, 1000]⟩
abbrev S1000x1000 : Shape := ⟨2, ![1000, 1000]⟩
abbrev S1000x4 : Shape := ⟨2, ![1000, 4]⟩
abbrev S4x1000 : Shape := ⟨2, ![4, 1000]⟩
abbrev S1000x1 : Shape := ⟨2, ![1000, 1]⟩
abbrev S1x1000 : Shape := ⟨2, ![1, 1000]⟩
abbrev S8x300 : Shape := ⟨2, ![8, 300]⟩
abbrev S8x300x1 : Shape := ⟨3, ![8, 300, 1]⟩
abbrev S8x300x4 : Shape := ⟨3, ![8, 300, 4]⟩

abbrev nBuf : Space → Nat
  | .hbm => 133
  | .vmem => 20
  | .smem => 0
  | _ => 0

abbrev hbmTy0_0 (i : Nat) : BufTy := match i % 128 with
  | 0 => ⟨S8x20000x4, .f32⟩
  | 1 => ⟨S8x20000x80, .f32⟩
  | 2 => ⟨S8x2, .f32⟩
  | 3 => ⟨S8x20000x4, .f32⟩
  | 4 => ⟨S8x20000x1, .f32⟩
  | 5 => ⟨S8x20000x1, .i32⟩
  | 6 => ⟨S8x20000, .f32⟩
  | 7 => ⟨S8x20000, .i32⟩
  | 8 => ⟨S8x1000, .f32⟩
  | 9 => ⟨S8x1000, .i32⟩
  | 10 => ⟨S8x1000x1, .i32⟩
  | 11 => ⟨S_, .i32⟩
  | 12 => ⟨S8x1000x1, .i32⟩
  | 13 => ⟨S8x1000x1, .i1⟩
  | 14 => ⟨S_, .i32⟩
  | 15 => ⟨S8x1000x1, .i32⟩
  | 16 => ⟨S8x1000x1, .i32⟩
  | 17 => ⟨S8x1000x1, .i32⟩
  | 18 => ⟨S1, .i32⟩
  | 19 => ⟨S_, .i32⟩
  | 20 => ⟨S8x1000x1, .i32⟩
  | 21 => ⟨S8x1000x1, .i1⟩
  | 22 => ⟨S1x1x1, .i32⟩
  | 23 => ⟨S8x1000x1, .i32⟩
  | 24 => ⟨S8x1000x1, .i1⟩
  | 25 => ⟨S8x1000x1, .i1⟩
  | 26 => ⟨S_, .i1⟩
  | 27 => ⟨S8x1000, .i1⟩
  | 28 => ⟨S8x1000x4, .f32⟩
  | 29 => ⟨S8x1000x4, .i1⟩
  | 30 => ⟨S_, .f32⟩
  | 31 => ⟨S8x1000x4, .f32⟩
  | 32 => ⟨S8x1000x4, .f32⟩
  | 33 => ⟨S_, .i32⟩
  | 34 => ⟨S8x1000, .i32⟩
  | 35 => ⟨S8x1000, .i1⟩
  | 36 => ⟨S_, .i32⟩
  | 37 => ⟨S8x1000, .i32⟩
  | 38 => ⟨S8x1000, .i32⟩
  | 39 => ⟨S8x1000, .i32⟩
  | 40 => ⟨S8x1000x1, .i32⟩
  | 41 => ⟨S1, .i32⟩
  | 42 => ⟨S_, .i32⟩
  | 43 => ⟨S8x1000x1, .i32⟩
  | 44 => ⟨S8x1000x1, .i1⟩
  | 45 => ⟨S1x1x1, .i32⟩
  | 46 => ⟨S8x1000x1, .i32⟩
  | 47 => ⟨S8x1000x1, .i1⟩
  | 48 => ⟨S8x1000x1, .i1⟩
  | 49 => ⟨S_, .i1⟩
  | 50 => ⟨S8x1000, .i1⟩
  | 51 => ⟨S8x1000, .i32⟩
  | 52 => ⟨S_, .i32⟩
  | 53 => ⟨S8x1000, .i32⟩
  | 54 => ⟨S8x1000, .i32⟩
  | 55 => ⟨S8x4x1000, .f32⟩
  | 56 => ⟨S8x1x1000, .f32⟩
  | 57 => ⟨S8x1x1000, .f32⟩
  | 58 => ⟨S8x1000, .f32⟩
  | 59 => ⟨S_, .f32⟩
  | 60 => ⟨S8x1000, .f32⟩
  | 61 => ⟨S8x1000, .i1⟩
  | 62 => ⟨S_, .f32⟩
  | 63 => ⟨S_, .f32⟩
  | 64 => ⟨S8x1000, .f32⟩
  | 65 => ⟨S8x1000, .f32⟩
  | 66 => ⟨S8x300, .f32⟩
  | 67 => ⟨S8x300, .i32⟩
  | 68 => ⟨S_, .f32⟩
  | 69 => ⟨S8x300, .f32⟩
  | 70 => ⟨S8x300, .i1⟩
  | 71 => ⟨S8x300x1, .i1⟩
  | 72 => ⟨S8x300x1, .i32⟩
  | 73 => ⟨S_, .i32⟩
  | 74 => ⟨S8x300x1, .i32⟩
  | 75 => ⟨S8x300x1, .i1⟩
  | 76 => ⟨S_, .i32⟩
  | 77 => ⟨S8x300x1, .i32⟩
  | 78 => ⟨S8x300x1, .i32⟩
  | 79 => ⟨S8x300x1, .i32⟩
  | 80 => ⟨S1, .i32⟩
  | 81 => ⟨S_, .i32⟩
  | 82 => ⟨S8x300x1, .i32⟩
  | 83 => ⟨S8x300x1, .i1⟩
  | 84 => ⟨S1x1x1, .i32⟩
  | 85 => ⟨S8x300x1, .i32⟩
  | 86 => ⟨S8x300x1, .i1⟩
  | 87 => ⟨S8x300x1, .i1⟩
  | 88 => ⟨S_, .i1⟩
  | 89 => ⟨S8x300, .i1⟩
  | 90 => ⟨S8x300x4, .f32⟩
  | 91 => ⟨S8x300x4, .i1⟩
  | 92 => ⟨S_, .f32⟩
  | 93 => ⟨S8x300x4, .f32⟩
  | 94 => ⟨S8x300x4, .f32⟩
  | 95 => ⟨S_, .f32⟩
  | 96 => ⟨S_, .f32⟩
  | 97 => ⟨S8x300x4, .i1⟩
  | 98 => ⟨S8x300x4, .f32⟩
  | 99 => ⟨S8x300x4, .f32⟩
  | 100 => ⟨S_, .f32⟩
  | 101 => ⟨S_, .f32⟩
  | 102 => ⟨S8x300, .f32⟩
  | 103 => ⟨S8x300, .f32⟩
  | 104 => ⟨S8x300x1, .f32⟩
  | 105 => ⟨S_, .i32⟩
  | 106 => ⟨S8x300, .i32⟩
  | 107 => ⟨S8x300, .i1⟩
  | 108 => ⟨S_, .i32⟩
  | 109 => ⟨S8x300, .i32⟩
  | 110 => ⟨S8x300, .i32⟩
  | 111 => ⟨S8x300, .i32⟩
  | 112 => ⟨S8x300x1, .i32⟩
  | 113 => ⟨S1, .i32⟩
  | 114 => ⟨S_, .i32⟩
  | 115 => ⟨S8x300x1, .i32⟩
  | 116 => ⟨S8x300x1, .i1⟩
  | 117 => ⟨S1x1x1, .i32⟩
  | 118 => ⟨S8x300x1, .i32⟩
  | 119 => ⟨S8x300x1, .i1⟩
  | 120 => ⟨S8x300x1, .i1⟩
  | 121 => ⟨S_, .i1⟩
  | 122 => ⟨S8x300, .i1⟩
  | 123 => ⟨S8x300, .i32⟩
  | 124 => ⟨S_, .i32⟩
  | 125 => ⟨S8x300, .i32⟩
  | 126 => ⟨S8x300, .i32⟩
  | 127 => ⟨S8x300, .f32⟩
  | _ => ⟨S8x20000x4, .f32⟩

abbrev hbmTy0_1 (i : Nat) : BufTy := match i % 128 with
  | 0 => ⟨S_, .f32⟩
  | 1 => ⟨S_, .f32⟩
  | 2 => ⟨S8x300, .f32⟩
  | 3 => ⟨S8x300, .f32⟩
  | 4 => ⟨S8x300x1, .f32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | .local _ .vmem, ⟨0, _⟩ => ⟨S1x2000x4, .f32⟩
  | .local _ .vmem, ⟨1, _⟩ => ⟨S1x2000x4, .f32⟩
  | .local _ .vmem, ⟨2, _⟩ => ⟨S1x2000x80, .f32⟩
  | .local _ .vmem, ⟨3, _⟩ => ⟨S1x2000x80, .f32⟩
  | .local _ .vmem, ⟨4, _⟩ => ⟨S8x2, .f32⟩
  | .local _ .vmem, ⟨5, _⟩ => ⟨S1x2000x4, .f32⟩
  | .local _ .vmem, ⟨6, _⟩ => ⟨S1x2000x4, .f32⟩
  | .local _ .vmem, ⟨7, _⟩ => ⟨S1x2000x1, .f32⟩
  | .local _ .vmem, ⟨8, _⟩ => ⟨S1x2000x1, .f32⟩
  | .local _ .vmem, ⟨9, _⟩ => ⟨S1x2000x1, .i32⟩
  | .local _ .vmem, ⟨10, _⟩ => ⟨S1x2000x1, .i32⟩
  | .local _ .vmem, ⟨11, _⟩ => ⟨S1x1000x4, .f32⟩
  | .local _ .vmem, ⟨12, _⟩ => ⟨S1x1000x4, .f32⟩
  | .local _ .vmem, ⟨13, _⟩ => ⟨S1x4x1000, .f32⟩
  | .local _ .vmem, ⟨14, _⟩ => ⟨S1x4x1000, .f32⟩
  | .local _ .vmem, ⟨15, _⟩ => ⟨S1x1x1000, .f32⟩
  | .local _ .vmem, ⟨16, _⟩ => ⟨S1x1x1000, .f32⟩
  | .local _ .vmem, ⟨17, _⟩ => ⟨S1x1x1000, .f32⟩
  | .local _ .vmem, ⟨18, _⟩ => ⟨S1x1x1000, .f32⟩
  | .local _ .vmem, ⟨19, _⟩ => ⟨S1000x1000, .f32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_values : Ref sig .tc := ⟨.hbm, 8, rfl⟩
abbrev main_indices : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_c_4 : Ref sig .tc := ⟨.hbm, 52, rfl⟩
abbrev main_call1_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst : Ref sig .tc := ⟨.hbm, 59, rfl⟩
abbrev main_v10 : Ref sig .tc := ⟨.hbm, 60, rfl⟩
abbrev main_v11 : Ref sig .tc := ⟨.hbm, 61, rfl⟩
abbrev main_cst_0 : Ref sig .tc := ⟨.hbm, 62, rfl⟩
abbrev main_call2_v0 : Ref sig .tc := ⟨.hbm, 63, rfl⟩
abbrev main_call2_v1 : Ref sig .tc := ⟨.hbm, 64, rfl⟩
abbrev main_v12 : Ref sig .tc := ⟨.hbm, 65, rfl⟩
abbrev main_values_1 : Ref sig .tc := ⟨.hbm, 66, rfl⟩
abbrev main_indices_2 : Ref sig .tc := ⟨.hbm, 67, rfl⟩
abbrev main_cst_3 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_c_2 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_c_3 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_cst : Ref sig .tc := ⟨.hbm, 92, rfl⟩
abbrev main_call3_v14 : Ref sig .tc := ⟨.hbm, 93, rfl⟩
abbrev main_v17 : Ref sig .tc := ⟨.hbm, 94, rfl⟩
abbrev main_cst_4 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v18 : Ref sig .tc := ⟨.hbm, 99, rfl⟩
abbrev main_cst_5 : Ref sig .tc := ⟨.hbm, 100, rfl⟩
abbrev main_call5_v0 : Ref sig .tc := ⟨.hbm, 101, rfl⟩
abbrev main_call5_v1 : Ref sig .tc := ⟨.hbm, 102, rfl⟩
abbrev main_v19 : Ref sig .tc := ⟨.hbm, 103, rfl⟩
abbrev main_v20 : Ref sig .tc := ⟨.hbm, 104, rfl⟩
abbrev main_call6_c : Ref sig .tc := ⟨.hbm, 105, rfl⟩
abbrev main_call6_v0 : Ref sig .tc := ⟨.hbm, 106, rfl⟩
abbrev main_call6_v1 : Ref sig .tc := ⟨.hbm, 107, rfl⟩
abbrev main_call6_c_0 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_call6_v5 : Ref sig .tc := ⟨.hbm, 112, rfl⟩
abbrev main_call6_c_1 : Ref sig .tc := ⟨.hbm, 113, rfl⟩
abbrev main_call6_c_2 : Ref sig .tc := ⟨.hbm, 114, rfl⟩
abbrev main_call6_v6 : Ref sig .tc := ⟨.hbm, 115, rfl⟩
abbrev main_call6_v7 : Ref sig .tc := ⟨.hbm, 116, rfl⟩
abbrev main_call6_v8 : Ref sig .tc := ⟨.hbm, 117, rfl⟩
abbrev main_call6_v9 : Ref sig .tc := ⟨.hbm, 118, rfl⟩
abbrev main_call6_v10 : Ref sig .tc := ⟨.hbm, 119, rfl⟩
abbrev main_call6_v11 : Ref sig .tc := ⟨.hbm, 120, rfl⟩
abbrev main_call6_c_3 : Ref sig .tc := ⟨.hbm, 121, rfl⟩
abbrev main_call6_v12 : Ref sig .tc := ⟨.hbm, 122, rfl⟩
abbrev main_call6_v13 : Ref sig .tc := ⟨.hbm, 123, rfl⟩
abbrev main_call6_c_4 : Ref sig .tc := ⟨.hbm, 124, rfl⟩
abbrev main_call6_v14 : Ref sig .tc := ⟨.hbm, 125, rfl⟩
abbrev main_v21 : Ref sig .tc := ⟨.hbm, 126, rfl⟩
abbrev main_v22 : Ref sig .tc := ⟨.hbm, 127, rfl⟩
abbrev main_cst_6 : Ref sig .tc := ⟨.hbm, 128, rfl⟩
abbrev main_call7_v0 : Ref sig .tc := ⟨.hbm, 129, rfl⟩
abbrev main_call7_v1 : Ref sig .tc := ⟨.hbm, 130, rfl⟩
abbrev main_v23 : Ref sig .tc := ⟨.hbm, 131, rfl⟩
abbrev main_v24 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![8, 10], ![false, false]⟩

def k0_off1 (i : grid0.Coords) : Fin 2 → Nat :=
  let arg0 : BitVec 32 := BitVec.ofNat 32 (i 0).val
  let v4 : Index := Scalar.indexCast arg0
  let c0_5 : Index := 0#32
  ![v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

@[reducible] def k1_t1_loop : Scf.Loop 32 :=
  let c0_i32 : BitVec 32 := 0#32
  let c1000_i32 : BitVec 32 := 1000#32
  let v66 : BitVec 32 := Scalar.addi c0_i32 c1000_i32
  let c1_i32 : BitVec 32 := 1#32
  ⟨c0_i32, v66, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let v69 : Index := Scalar.indexCast arg6
  let c0_26 : Index := 0#32
  ![v69.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x20000x4 : Shape := ⟨3, ![8, 20000, 4]⟩
abbrev S8x20000x80 : Shape := ⟨3, ![8, 20000, 80]⟩
abbrev S8x2 : Shape := ⟨2, ![8, 2]⟩
abbrev S8x20000x1 : Shape := ⟨3, ![8, 20000, 1]⟩
abbrev S8x20000 : Shape := ⟨2, ![8, 20000]⟩
abbrev S8x1 : Shape := ⟨2, ![8, 1]⟩
abbrev S8 : Shape := ⟨1, ![8]⟩
abbrev S_ : Shape := ⟨0, ![]⟩
abbrev S20000 : Shape := ⟨1, ![20000]⟩
abbrev S8x1000 : Shape := ⟨2, ![8, 1000]⟩
abbrev S8x1000x1 : Shape := ⟨3, ![8, 1000, 1]⟩
abbrev S8x1000x4 : Shape := ⟨3, ![8, 1000, 4]⟩
abbrev S8x1x1000 : Shape := ⟨3, ![8, 1, 1000]⟩
abbrev S8x1000x1000 : Shape := ⟨3, ![8, 1000, 1000]⟩
abbrev S1000 : Shape := ⟨1, ![1000]⟩
abbrev S1x1000 : Shape := ⟨2, ![1, 1000]⟩
abbrev S8x300 : Shape := ⟨2, ![8, 300]⟩
abbrev S8x300x1 : Shape := ⟨3, ![8, 300, 1]⟩
abbrev S8x300x4 : Shape := ⟨3, ![8, 300, 4]⟩
abbrev S300x4 : Shape := ⟨2, ![300, 4]⟩
abbrev S300 : Shape := ⟨1, ![300]⟩

abbrev nBuf : Space → Nat
  | .hbm => 239
  | .vmem => 0
  | .smem => 0
  | _ => 0

abbrev hbmTy0_0 (i : Nat) : BufTy := match i % 128 with
  | 0 => ⟨S8x20000x4, .f32⟩
  | 1 => ⟨S8x20000x80, .f32⟩
  | 2 => ⟨S8x2, .f32⟩
  | 3 => ⟨S8x20000x1, .f32⟩
  | 4 => ⟨S8x20000, .f32⟩
  | 5 => ⟨S8x1, .f32⟩
  | 6 => ⟨S8, .f32⟩
  | 7 => ⟨S_, .f32⟩
  | 8 => ⟨S_, .f32⟩
  | 9 => ⟨S8x20000, .f32⟩
  | 10 => ⟨S8x20000, .f32⟩
  | 11 => ⟨S8x1, .f32⟩
  | 12 => ⟨S8x20000, .f32⟩
  | 13 => ⟨S8x20000, .f32⟩
  | 14 => ⟨S8x20000x1, .f32⟩
  | 15 => ⟨S8x20000, .f32⟩
  | 16 => ⟨S8x1, .f32⟩
  | 17 => ⟨S8, .f32⟩
  | 18 => ⟨S_, .f32⟩
  | 19 => ⟨S_, .f32⟩
  | 20 => ⟨S8x20000, .f32⟩
  | 21 => ⟨S8x20000, .f32⟩
  | 22 => ⟨S8x1, .f32⟩
  | 23 => ⟨S8x20000, .f32⟩
  | 24 => ⟨S8x20000, .f32⟩
  | 25 => ⟨S8x20000x1, .f32⟩
  | 26 => ⟨S8x20000, .f32⟩
  | 27 => ⟨S8x1, .f32⟩
  | 28 => ⟨S8, .f32⟩
  | 29 => ⟨S_, .f32⟩
  | 30 => ⟨S_, .f32⟩
  | 31 => ⟨S8x20000, .f32⟩
  | 32 => ⟨S8x20000, .f32⟩
  | 33 => ⟨S8x1, .f32⟩
  | 34 => ⟨S8x20000, .f32⟩
  | 35 => ⟨S8x20000, .f32⟩
  | 36 => ⟨S8x20000x1, .f32⟩
  | 37 => ⟨S8x20000, .f32⟩
  | 38 => ⟨S8x1, .f32⟩
  | 39 => ⟨S8, .f32⟩
  | 40 => ⟨S_, .f32⟩
  | 41 => ⟨S_, .f32⟩
  | 42 => ⟨S8x20000, .f32⟩
  | 43 => ⟨S8x20000, .f32⟩
  | 44 => ⟨S8x1, .f32⟩
  | 45 => ⟨S8x20000, .f32⟩
  | 46 => ⟨S8x20000, .f32⟩
  | 47 => ⟨S8x20000x1, .f32⟩
  | 48 => ⟨S8x20000x1, .f32⟩
  | 49 => ⟨S8x20000x1, .f32⟩
  | 50 => ⟨S8x20000x1, .f32⟩
  | 51 => ⟨S8x20000x4, .f32⟩
  | 52 => ⟨S_, .f32⟩
  | 53 => ⟨S8x20000, .f32⟩
  | 54 => ⟨S8x20000x80, .i32⟩
  | 55 => ⟨S_, .f32⟩
  | 56 => ⟨S_, .i32⟩
  | 57 => ⟨S8x20000, .f32⟩
  | 58 => ⟨S8x20000, .i32⟩
  | 59 => ⟨S_, .f32⟩
  | 60 => ⟨S8x20000, .f32⟩
  | 61 => ⟨S8x20000, .i1⟩
  | 62 => ⟨S_, .f32⟩
  | 63 => ⟨S_, .f32⟩
  | 64 => ⟨S20000, .f32⟩
  | 65 => ⟨S8x20000, .f32⟩
  | 66 => ⟨S8x20000, .f32⟩
  | 67 => ⟨S8x1000, .f32⟩
  | 68 => ⟨S8x1000, .i32⟩
  | 69 => ⟨S_, .i32⟩
  | 70 => ⟨S8x1000, .i32⟩
  | 71 => ⟨S8x1000, .i1⟩
  | 72 => ⟨S_, .i32⟩
  | 73 => ⟨S8x1000, .i32⟩
  | 74 => ⟨S8x1000, .i32⟩
  | 75 => ⟨S8x1000, .i32⟩
  | 76 => ⟨S8x1000x1, .i32⟩
  | 77 => ⟨S8x1000x4, .f32⟩
  | 78 => ⟨S_, .i32⟩
  | 79 => ⟨S8x1000, .i32⟩
  | 80 => ⟨S8x1000, .i1⟩
  | 81 => ⟨S_, .i32⟩
  | 82 => ⟨S8x1000, .i32⟩
  | 83 => ⟨S8x1000, .i32⟩
  | 84 => ⟨S8x1000, .i32⟩
  | 85 => ⟨S8x1000x1, .i32⟩
  | 86 => ⟨S8x1000, .i32⟩
  | 87 => ⟨S8x1000x1, .f32⟩
  | 88 => ⟨S8x1000, .f32⟩
  | 89 => ⟨S8x1000x1, .f32⟩
  | 90 => ⟨S8x1000, .f32⟩
  | 91 => ⟨S8x1000x1, .f32⟩
  | 92 => ⟨S8x1000, .f32⟩
  | 93 => ⟨S8x1000x1, .f32⟩
  | 94 => ⟨S8x1000, .f32⟩
  | 95 => ⟨S8x1000, .f32⟩
  | 96 => ⟨S_, .f32⟩
  | 97 => ⟨S8x1000, .f32⟩
  | 98 => ⟨S8x1000, .f32⟩
  | 99 => ⟨S8x1000, .f32⟩
  | 100 => ⟨S_, .f32⟩
  | 101 => ⟨S8x1000, .f32⟩
  | 102 => ⟨S8x1000, .f32⟩
  | 103 => ⟨S8x1000, .f32⟩
  | 104 => ⟨S8x1000x1, .f32⟩
  | 105 => ⟨S8x1x1000, .f32⟩
  | 106 => ⟨S8x1000x1000, .f32⟩
  | 107 => ⟨S8x1000x1000, .f32⟩
  | 108 => ⟨S8x1000x1000, .f32⟩
  | 109 => ⟨S8x1000x1, .f32⟩
  | 110 => ⟨S8x1x1000, .f32⟩
  | 111 => ⟨S8x1000x1000, .f32⟩
  | 112 => ⟨S8x1000x1000, .f32⟩
  | 113 => ⟨S8x1000x1000, .f32⟩
  | 114 => ⟨S8x1000x1, .f32⟩
  | 115 => ⟨S8x1x1000, .f32⟩
  | 116 => ⟨S8x1000x1000, .f32⟩
  | 117 => ⟨S8x1000x1000, .f32⟩
  | 118 => ⟨S8x1000x1000, .f32⟩
  | 119 => ⟨S8x1000x1, .f32⟩
  | 120 => ⟨S8x1x1000, .f32⟩
  | 121 => ⟨S8x1000x1000, .f32⟩
  | 122 => ⟨S8x1000x1000, .f32⟩
  | 123 => ⟨S8x1000x1000, .f32⟩
  | 124 => ⟨S8x1000x1000, .f32⟩
  | 125 => ⟨S_, .f32⟩
  | 126 => ⟨S8x1000x1000, .f32⟩
  | 127 => ⟨S8x1000x1000, .f32⟩
  | _ => ⟨S8x20000x4, .f32⟩

abbrev hbmTy0_1 (i : Nat) : BufTy := match i % 128 with
  | 0 => ⟨S8x1000x1000, .f32⟩
  | 1 => ⟨S_, .f32⟩
  | 2 => ⟨S8x1000x1000, .f32⟩
  | 3 => ⟨S8x1000x1000, .f32⟩
  | 4 => ⟨S8x1000x1000, .f32⟩
  | 5 => ⟨S8x1000x1, .f32⟩
  | 6 => ⟨S8x1x1000, .f32⟩
  | 7 => ⟨S8x1000x1000, .f32⟩
  | 8 => ⟨S8x1000x1000, .f32⟩
  | 9 => ⟨S8x1000x1000, .f32⟩
  | 10 => ⟨S8x1000x1000, .f32⟩
  | 11 => ⟨S_, .f32⟩
  | 12 => ⟨S8x1000x1000, .f32⟩
  | 13 => ⟨S8x1000x1000, .f32⟩
  | 14 => ⟨S8x1000x1000, .f32⟩
  | 15 => ⟨S_, .f32⟩
  | 16 => ⟨S8x1000, .f32⟩
  | 17 => ⟨S8x1000, .i1⟩
  | 18 => ⟨S1000, .i32⟩
  | 19 => ⟨S_, .i32⟩
  | 20 => ⟨S_, .i32⟩
  | 21 => ⟨S8x1000x1000, .f32⟩
  | 22 => ⟨S1000, .i32⟩
  | 23 => ⟨S_, .i32⟩
  | 24 => ⟨S_, .i32⟩
  | 25 => ⟨S8x1000, .i1⟩
  | 26 => ⟨S_, .i32⟩
  | 27 => ⟨S_, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S8x1x1000, .f32⟩
  | 39 => ⟨S8x1000, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S8x1, .i1⟩
  | 48 => ⟨S_, .f32⟩
  | 49 => ⟨S8x1000, .f32⟩
  | 50 => ⟨S8x1000, .i1⟩
  | 51 => ⟨S_, .i32⟩
  | 52 => ⟨S1000, .i32⟩
  | 53 => ⟨S1000, .i1⟩
  | 54 => ⟨S1x1000, .i1⟩
  | 55 => ⟨S8x1000, .i1⟩
  | 56 => ⟨S8x1000, .i1⟩
  | 57 => ⟨S8x1000, .i1⟩
  | 58 => ⟨S8x1000, .i1⟩
  | 59 => ⟨S8x1000, .i1⟩
  | 60 => ⟨S8x1000, .i1⟩
  | 61 => ⟨S_, .i32⟩
  | 62 => ⟨S_, .i32⟩
  | 63 => ⟨S_, .f32⟩
  | 64 => ⟨S_, .f32⟩
  | 65 => ⟨S1000, .f32⟩
  | 66 => ⟨S8x1000, .f32⟩
  | 67 => ⟨S8x1000, .f32⟩
  | 68 => ⟨S8x300, .f32⟩
  | 69 => ⟨S8x300, .i32⟩
  | 70 => ⟨S_, .f32⟩
  | 71 => ⟨S8x300, .f32⟩
  | 72 => ⟨S8x300, .i1⟩
  | 73 => ⟨S8x300x1, .i1⟩
  | 74 => ⟨S_, .i32⟩
  | 75 => ⟨S8x300, .i32⟩
  | 76 => ⟨S8x300, .i1⟩
  | 77 => ⟨S_, .i32⟩
  | 78 => ⟨S8x300, .i32⟩
  | 79 => ⟨S8x300, .i32⟩
  | 80 => ⟨S8x300, .i32⟩
  | 81 => ⟨S8x300x1, .i32⟩
  | 82 => ⟨S8x300x4, .f32⟩
  | 83 => ⟨S_, .f32⟩
  | 84 => ⟨S_, .f32⟩
  | 85 => ⟨S8x300x4, .i1⟩
  | 86 => ⟨S300x4, .f32⟩
  | 87 => ⟨S8x300x4, .f32⟩
  | 88 => ⟨S8x300x4, .f32⟩
  | 89 => ⟨S_, .f32⟩
  | 90 => ⟨S_, .f32⟩
  | 91 => ⟨S300, .f32⟩
  | 92 => ⟨S8x300, .f32⟩
  | 93 => ⟨S8x300, .f32⟩
  | 94 => ⟨S8x300x1, .f32⟩
  | 95 => ⟨S_, .i32⟩
  | 96 => ⟨S8x300, .i32⟩
  | 97 => ⟨S8x300, .i1⟩
  | 98 => ⟨S_, .i32⟩
  | 99 => ⟨S8x300, .i32⟩
  | 100 => ⟨S8x300, .i32⟩
  | 101 => ⟨S8x300, .i32⟩
  | 102 => ⟨S8x300x1, .i32⟩
  | 103 => ⟨S8x300, .i32⟩
  | 104 => ⟨S8x300, .f32⟩
  | 105 => ⟨S_, .f32⟩
  | 106 => ⟨S_, .f32⟩
  | 107 => ⟨S300, .f32⟩
  | 108 => ⟨S8x300, .f32⟩
  | 109 => ⟨S8x300, .f32⟩
  | 110 => ⟨S8x300x1, .f32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_call4_v0 : Ref sig .tc := ⟨.hbm, 54, rfl⟩
abbrev main_call4_cst : Ref sig .tc := ⟨.hbm, 55, rfl⟩
abbrev main_call4_c : Ref sig .tc := ⟨.hbm, 56, rfl⟩
abbrev main_call4_v1_0 : Ref sig .tc := ⟨.hbm, 57, rfl⟩
abbrev main_v26 : Ref sig .tc := ⟨.hbm, 58, rfl⟩
abbrev main_cst_4 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_v29 : Ref sig .tc := ⟨.hbm, 66, rfl⟩
abbrev main_values : Ref sig .tc := ⟨.hbm, 67, rfl⟩
abbrev main_indices : Ref sig .tc := ⟨.hbm, 68, rfl⟩
abbrev main_c : Ref sig .tc := ⟨.hbm, 69, rfl⟩
abbrev main_v30 : Ref sig .tc := ⟨.hbm, 70, rfl⟩
abbrev main_v31 : Ref sig .tc := ⟨.hbm, 71, rfl⟩
abbrev main_c_6 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_c_7 : Ref sig .tc := ⟨.hbm, 78, rfl⟩
abbrev main_v37 : Ref sig .tc := ⟨.hbm, 79, rfl⟩
abbrev main_v38 : Ref sig .tc := ⟨.hbm, 80, rfl⟩
abbrev main_c_8 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_9 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_10 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_11 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_12 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_13 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_14 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_15 : Ref sig .tc := ⟨.hbm, 147, rfl⟩
abbrev main_c_16 : Ref sig .tc := ⟨.hbm, 148, rfl⟩
abbrev main_v98_0 : Ref sig .tc := ⟨.hbm, 149, rfl⟩
abbrev main_v98_1 : Ref sig .tc := ⟨.hbm, 150, rfl⟩
abbrev main_v98_2 : Ref sig .tc := ⟨.hbm, 151, rfl⟩
abbrev main_v98_3 : Ref sig .tc := ⟨.hbm, 152, rfl⟩
abbrev main_v98_4 : Ref sig .tc := ⟨.hbm, 153, rfl⟩
abbrev main_while0c_c_32 : Ref sig .tc := ⟨.hbm, 154, rfl⟩
abbrev main_while0c_v123 : Ref sig .tc := ⟨.hbm, 155, rfl⟩
abbrev main_while0b_c_32 : Ref sig .tc := ⟨.hbm, 156, rfl⟩
abbrev main_while0b_v123 : Ref sig .tc := ⟨.hbm, 157, rfl⟩
abbrev main_while0b_call6_c : Ref sig .tc := ⟨.hbm, 158, rfl⟩
abbrev main_while0b_call6_v0 : Ref sig .tc := ⟨.hbm, 159, rfl⟩
abbrev main_while0b_call6_v1 : Ref sig .tc := ⟨.hbm, 160, rfl⟩
abbrev main_while0b_call6_c_0 : Ref sig .tc := ⟨.hbm, 161, rfl⟩
abbrev main_while0b_call6_v2 : Ref sig .tc := ⟨.hbm, 162, rfl⟩
abbrev main_while0b_call6_v3 : Ref sig .tc := ⟨.hbm, 163, rfl⟩
abbrev main_while0b_call6_c_1 : Ref sig .tc := ⟨.hbm, 164, rfl⟩
abbrev main_while0b_call6_c_2 : Ref sig .tc := ⟨.hbm, 165, rfl⟩
abbrev main_while0b_call6_v4 : Ref sig .tc := ⟨.hbm, 166, rfl⟩
abbrev main_while0b_v124 : Ref sig .tc := ⟨.hbm, 167, rfl⟩
abbrev main_while0b_call7_c : Ref sig .tc := ⟨.hbm, 168, rfl⟩
abbrev main_while0b_call7_v0 : Ref sig .tc := ⟨.hbm, 169, rfl⟩
abbrev main_while0b_call7_v1 : Ref sig .tc := ⟨.hbm, 170, rfl⟩
abbrev main_while0b_call7_c_0 : Ref sig .tc := ⟨.hbm, 171, rfl⟩
abbrev main_while0b_call7_v2 : Ref sig .tc := ⟨.hbm, 172, rfl⟩
abbrev main_while0b_call7_v3 : Ref sig .tc := ⟨.hbm, 173, rfl⟩
abbrev main_while0b_call7_c_1 : Ref sig .tc := ⟨.hbm, 174, rfl⟩
abbrev main_while0b_v125 : Ref sig .tc := ⟨.hbm, 175, rfl⟩
abbrev main_while0b_cst_33 : Ref sig .tc := ⟨.hbm, 176, rfl⟩
abbrev main_while0b_v126 : Ref sig .tc := ⟨.hbm, 177, rfl⟩
abbrev main_while0b_v127 : Ref sig .tc := ⟨.hbm, 178, rfl⟩
abbrev main_while0b_v128 : Ref sig .tc := ⟨.hbm, 179, rfl⟩
abbrev main_while0b_v129 : Ref sig .tc := ⟨.hbm, 180, rfl⟩
abbrev main_while0b_v130 : Ref sig .tc := ⟨.hbm, 181, rfl⟩
abbrev main_while0b_v131 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_v135 : Ref sig .tc := ⟨.hbm, 186, rfl⟩
abbrev main_while0b_v136 : Ref sig .tc := ⟨.hbm, 187, rfl⟩
abbrev main_while0b_v137 : Ref sig .tc := ⟨.hbm, 188, rfl⟩
abbrev main_while0b_c_34 : Ref sig .tc := ⟨.hbm, 189, rfl⟩
abbrev main_while0b_v138 : Ref sig .tc := ⟨.hbm, 190, rfl⟩
abbrev main_cst_17 : Ref sig .tc := ⟨.hbm, 191, rfl⟩
abbrev main_call8_v0 : Ref sig .tc := ⟨.hbm, 192, rfl⟩
abbrev main_call8_v1 : Ref sig .tc := ⟨.hbm, 193, rfl⟩
abbrev main_call8_v2 : Ref sig .tc := ⟨.hbm, 194, rfl⟩
abbrev main_v99 : Ref sig .tc := ⟨.hbm, 195, rfl⟩
abbrev main_values_18 : Ref sig .tc := ⟨.hbm, 196, rfl⟩
abbrev main_indices_19 : Ref sig .tc := ⟨.hbm, 197, rfl⟩
abbrev main_cst_20 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_c_21 : Ref sig .tc := ⟨.hbm, 202, rfl⟩
abbrev main_v103 : Ref sig .tc := ⟨.hbm, 203, rfl⟩
abbrev main_v104 : Ref sig .tc := ⟨.hbm, 204, rfl⟩
abbrev main_c_22 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_cst_23 : Ref sig .tc := ⟨.hbm, 211, rfl⟩
abbrev main_call9_v0 : Ref sig .tc := ⟨.hbm, 212, rfl⟩
abbrev main_call9_v1 : Ref sig .tc := ⟨.hbm, 213, rfl⟩
abbrev main_call9_v2 : Ref sig .tc := ⟨.hbm, 214, rfl⟩
abbrev main_call9_v3 : Ref sig .tc := ⟨.hbm, 215, rfl⟩
abbrev main_v110 : Ref sig .tc := ⟨.hbm, 216, rfl⟩
abbrev main_cst_24 : Ref sig .tc := ⟨.hbm, 217, rfl⟩
abbrev main_call10_v0 : Ref sig .tc := ⟨.hbm, 218, rfl⟩
abbrev main_call10_v1 : Ref sig .tc := ⟨.hbm, 219, rfl⟩
abbrev main_call10_v2 : Ref sig .tc := ⟨.hbm, 220, rfl⟩
abbrev main_v111 : Ref sig .tc := ⟨.hbm, 221, rfl⟩
abbrev main_v112 : Ref sig .tc := ⟨.hbm, 222, rfl⟩
abbrev main_c_25 : Ref sig .tc := ⟨.hbm, 223, rfl⟩
abbrev main_v113 : Ref sig .tc := ⟨.hbm, 224, rfl⟩
abbrev main_v114 : Ref sig .tc := ⟨.hbm, 225, rfl⟩
abbrev main_c_26 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_cst_27 : Ref sig .tc := ⟨.hbm, 233, rfl⟩
abbrev main_call11_v0 : Ref sig .tc := ⟨.hbm, 234, rfl⟩
abbrev main_call11_v1 : Ref sig .tc := ⟨.hbm, 235, rfl⟩
abbrev main_call11_v2 : Ref sig .tc := ⟨.hbm, 236, rfl⟩
abbrev main_v121 : Ref sig .tc := ⟨.hbm, 237, rfl⟩
abbrev main_v122 : Ref sig .tc := ⟨.hbm, 238, rfl⟩

abbrev nD : Nat := 1
abbrev τ : Topo := Topo.v7x

variable {F : FTy → Type} [FloatOps F]

abbrev main_while0_count : Scf.Loop 32 := ⟨0#32, 1000#32, 1#32⟩
-- ==== Proof.KernelRun.lean ====
/-
  The run of the idealized kernel, read at its RESULTS: `Gen.frame` (Proof/Gen/KernelIdeal/Frame.lean) states the launch's
  arguments unchanged; here the same launch is read at the three result buffers too, each at the boundary contents `W19`
  after the last stretch of host operations.
-/
module

public import proofs.«01_k».proof.Proof.Gen.KernelIdeal.Frame

@[expose] public section

set_option maxRecDepth 16384

noncomputable section

namespace Cert.KernelIdeal.Detect

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-- The resource algebra of the generated launch. -/
local notation "𝕄" => MT nD τ sig Unit (Elt F) ℕ (UR sig nD τ) ℕ

set_option backward.isDefEq.respectTransparency.types false in
/-- Every weakly fair run of the kernel's program terminates with the three results at the last boundary's contents and
    the arguments as launched. -/
theorem run : θ_run defs (onTc (τ := τ) (main (F := F))) ⟨m, fun _ => 0, ρ⟩ (fun r => ∀ c : Dev nD,
      r.2.mem ((c.tc : Thread nD τ).loc main_v18) = W19 m ρ c (Proc.devRef .tc main_v18)
      ∧ r.2.mem ((c.tc : Thread nD τ).loc main_v20) = W19 m ρ c (Proc.devRef .tc main_v20)
      ∧ r.2.mem ((c.tc : Thread nD τ).loc main_v24) = W19 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ c =>
      ⟨h c _ (mem_uc main_v18 (by decide)), h c _ (mem_uc main_v20 (by decide)), h c _ (mem_uc main_v24 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c)⟩)

end Cert.KernelIdeal.Detect

end
-- ==== Proof.Take.lean ====
/-
  Facts about the two host operations that pick entries: an index a top-k returns is a position of the sorted axis, so it is
  neither negative nor too large, and the tests a checked gather makes of such an index all succeed.
-/
module

public import Idealize.ShloMosaic.PureOps.ShapeOps
public import Idealize.ShloMosaic.PureOps.Vector
public import Idealize.ShloMosaic.PureOps.Reduce
public import Idealize.ShloMosaic.Lib.ReduceAll

@[expose] public section

noncomputable section

namespace Cert.Detect

open Idealize.ShloMosaic

/-- An index that a top-k along axis `d` returns is a position on that axis. -/
theorem topK_pos {α : Type} {s : Shape} (t : Shape) (d : Nat) (hd : d < s.rank) (gt : α → α → BitVec 1) (x : s.Idx → α)
    (h : s.Slices (fun _ => 0) t) (j : t.Idx) :
    ∃ p : Fin (s.size ⟨d, hd⟩), (Host.topK t d gt x h).2 j = BitVec.ofNat 32 p.val := by
  have key : ∀ i : s.Idx, ∃ p : Fin (s.size ⟨d, hd⟩),
      (Host.sort2 s d (fun l r => gt l.1 r.1) x
        (fun i => if hd : d < s.rank then iotaInDim s 32 ⟨d, hd⟩ i else 0#32)).2 i = BitVec.ofNat 32 p.val := by
    intro i
    unfold Host.sort2
    rw [dif_pos hd]
    simp only [dif_pos hd, iotaInDim]
    simp only [Shape.Idx.along, Function.update_self]
    exact ⟨_, rfl⟩
  exact key _

/-- The tests on a nonnegative index below a bound that fits: it is not negative, and it is at most the last position. -/
theorem pos_tests (p n : Nat) (hp : p < n) (hn : n ≤ 20000) :
    IntOp.cmpi .slt (BitVec.ofNat 32 p) 0#32 = 0#1 ∧ IntOp.cmpi .sge (BitVec.ofNat 32 p) 0#32 = 1#1
      ∧ IntOp.cmpi .sle (BitVec.ofNat 32 p) (BitVec.ofNat 32 (n - 1)) = 1#1 := by
  have hv : ∀ q : Nat, q < 20000 → (BitVec.ofNat 32 q).toInt = (q : Int) := by
    intro q hq
    rw [BitVec.toInt_eq_toNat_cond, BitVec.toNat_ofNat, Nat.mod_eq_of_lt (by omega)]
    rw [if_pos (by omega)]
  have hpi := hv p (by omega)
  have hni := hv (n - 1) (by omega)
  refine ⟨?_, ?_, ?_⟩
  · show BitVec.ofBool (BitVec.slt _ _) = _
    rw [BitVec.slt, hpi, decide_eq_false (by simp)]; rfl
  · show BitVec.ofBool (BitVec.sle _ _) = _
    rw [BitVec.sle, hpi, decide_eq_true (by simp)]; rfl
  · show BitVec.ofBool (BitVec.sle _ _) = _
    rw [BitVec.sle, hpi, hni, decide_eq_true (by omega)]; rfl

/-- Every entry of an index array is a position below `n`. -/
def Positions {s : Shape} (n : Nat) (idx : IVec s 32) : Prop := ∀ i, ∃ p, p < n ∧ idx i = BitVec.ofNat 32 p

/-- Counting negative entries from the end changes nothing in an array of positions. -/
theorem Positions.wrap {s : Shape} {n : Nat} {idx : IVec s 32} (h : Positions n idx) (hn : n ≤ 20000) (z w : IVec s 32)
    (hz : ∀ i, z i = 0#32) : select (cmpi .slt idx z) w idx = idx := by
  funext i
  obtain ⟨p, hp, e⟩ := h i
  show Scalar.select (IntOp.cmpi .slt (idx i) (z i)) (w i) (idx i) = idx i
  rw [hz, e, (pos_tests p n hp hn).1]
  rfl

/-- The range test of an array of positions, reduced over an axis, holds everywhere. -/
theorem Positions.inRange {s t u : Shape} {axes : List (Fin s.rank)} {n : Nat} {idx : IVec s 32} (h : Positions n idx)
    (hn : n ≤ 20000) (z l : IVec s 32) (init : IVec u 1) (hr : s.ReducesTo axes t) (hu : 0 < u.numel)
    (hz : ∀ i, z i = 0#32) (hl : ∀ i, l i = BitVec.ofNat 32 (n - 1)) (hi : ∀ i, init i = 1#1) (j : t.Idx) :
    Host.reduce IntOp.andi (andi (cmpi .sge idx z) (cmpi .sle idx l)) init hr hu j = 1#1 := by
  refine Host.reduce_andi_one _ _ hr hu j (hi _) fun i => ?_
  obtain ⟨p, hp, e⟩ := h i
  show IntOp.andi (IntOp.cmpi .sge (idx i) (z i)) (IntOp.cmpi .sle (idx i) (l i)) = 1#1
  rw [hz, hl, e, (pos_tests p n hp hn).2.1, (pos_tests p n hp hn).2.2]
  rfl

/-- A selection whose condition always holds is its first operand. -/
theorem select_ones {α : Type} {s : Shape} (m : IVec s 1) (x y : s.Idx → α) (h : ∀ j, m j = 1#1) : select m x y = x := by
  funext j
  show Scalar.select (m j) (x j) (y j) = x j
  rw [h]
  rfl

end Cert.Detect

end
-- ==== Proof.Spec.lean ====
/-
  What the detector computes, stated once for the two programs: the candidates picked by the first top-k, the suppression
  among them as a sequence of boolean masks, and the results assembled by the second top-k.
-/
module

public import proofs.«01_k».proof.KernelIdeal
public import Idealize.ShloMosaic.Lib.Pointwise
public import Idealize.ShloMosaic.PureOps.Ideal

@[expose] public section

set_option maxRecDepth 16384

noncomputable section

namespace Cert.Detect

open Idealize.ShloMosaic Idealize.ShloMosaic.TcCoe
open Cert.KernelIdeal Cert.KernelIdeal.Facts₀

section
variable {F : FTy → Type} [FloatOps F] [Facts₀]

/-! ### The candidates -/

/-- The 1000 greatest scores of each image, in order. -/
def topV (sc : FVec F S8x20000 .f32) : FVec F S8x1000 .f32 :=
  (Host.topK S8x1000 1 (FloatOps.cmpfTotal .gt) sc sliceFits_S8x20000_S8x1000).1

/-- Where they stand. -/
def topI (sc : FVec F S8x20000 .f32) : IVec S8x1000 32 :=
  (Host.topK S8x1000 1 (FloatOps.cmpfTotal .gt) sc sliceFits_S8x20000_S8x1000).2

/-- The boxes there. -/
def candB (bx : FVec F S8x20000x4 .f32) (sc : FVec F S8x20000 .f32) : FVec F S8x1000x4 .f32 :=
  Host.gather gather_S8x20000x4_S8x1000x1_S8x1000x4_2_1_0_0_1_2_114 bx
    (broadcastInDim S8x1000x1 ![0, 1] bcast_S8x1000_S8x1000x1_0_1 (topI sc))

/-- The labels there. -/
def candL (lb : IVec S8x20000 32) (sc : FVec F S8x20000 .f32) : IVec S8x1000 32 :=
  Host.gather gather_S8x20000_S8x1000x1_S8x1000_n_1_0_0_1_2_11 lb
    (broadcastInDim S8x1000x1 ![0, 1] bcast_S8x1000_S8x1000x1_0_1 (topI sc))

/-! ### The results, from the mask of kept candidates -/

/-- The kept candidates' scores, the others' replaced by the large negative word. -/
def kept (keep : IVec S8x1000 1) (vals : FVec F S8x1000 .f32) : FVec F S8x1000 .f32 :=
  select keep vals (fun _ => FloatOps.ofBits .f32 0xCE6E6B28#32)

/-- The 300 greatest of them. -/
def finV (keep : IVec S8x1000 1) (vals : FVec F S8x1000 .f32) : FVec F S8x300 .f32 :=
  (Host.topK S8x300 1 (FloatOps.cmpfTotal .gt) (kept keep vals) sliceFits_S8x1000_S8x300).1

/-- Where they stand among the candidates. -/
def finI (keep : IVec S8x1000 1) (vals : FVec F S8x1000 .f32) : IVec S8x300 32 :=
  (Host.topK S8x300 1 (FloatOps.cmpfTotal .gt) (kept keep vals) sliceFits_S8x1000_S8x300).2

/-- Which of them pass the score threshold. -/
def finOk (keep : IVec S8x1000 1) (vals : FVec F S8x1000 .f32) : IVec S8x300 1 :=
  cmpf .ogt (finV keep vals) (fun _ => FloatOps.ofBits .f32 0x3D4CCCCD#32)

/-- The result boxes. -/
def outB (keep : IVec S8x1000 1) (vals : FVec F S8x1000 .f32) (cb : FVec F S8x1000x4 .f32) : FVec F S8x300x4 .f32 :=
  select (broadcastInDim S8x300x4 ![0, 1, 2] bcast_S8x300x1_S8x300x4_0_1_2
      (broadcastInDim S8x300x1 ![0, 1] bcast_S8x300_S8x300x1_0_1 (finOk keep vals)))
    (Host.gather gather_S8x1000x4_S8x300x1_S8x300x4_2_1_0_0_1_2_114 cb
      (broadcastInDim S8x300x1 ![0, 1] bcast_S8x300_S8x300x1_0_1 (finI keep vals)))
    (fun _ => FloatOps.ofBits .f32 0xBF800000#32)

/-- The result scores. -/
def outS (keep : IVec S8x1000 1) (vals : FVec F S8x1000 .f32) : FVec F S8x300x1 .f32 :=
  broadcastInDim S8x300x1 ![0, 1] bcast_S8x300_S8x300x1_0_1
    (select (finOk keep vals) (finV keep vals) (fun _ => FloatOps.ofBits .f32 0xBF800000#32))

/-- The result labels. -/
def outL (keep : IVec S8x1000 1) (vals : FVec F S8x1000 .f32) (cl : IVec S8x1000 32) : FVec F S8x300x1 .f32 :=
  broadcastInDim S8x300x1 ![0, 1] bcast_S8x300_S8x300x1_0_1
    (select (finOk keep vals)
      (sitofp .f32 (Host.gather gather_S8x1000_S8x300x1_S8x300_n_1_0_0_1_2_11 cl
        (broadcastInDim S8x300x1 ![0, 1] bcast_S8x300_S8x300x1_0_1 (finI keep vals))))
      (fun _ => FloatOps.ofBits .f32 0xBF800000#32))

end

/-! ### What each box, score and label is before the candidates are picked, at the ideal values -/

theorem bits_bot : Ideal.ofBits .f32 0xFF800000#32 = ⊥ := by simp [Ideal.ofBits, Ideal.ieee]
theorem bits_zero : Ideal.ofBits .f32 0x00000000#32 = 0 := by simp [Ideal.ofBits, Ideal.ieee]
theorem bits_one : Ideal.ofBits .f32 0x3F800000#32 = 1 := by simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num

/-- A box's coordinates clipped to the image: the first and third to its width, the others to its height. -/
def clipped (x : S8x20000x4.Idx → EReal) (sz : S8x2.Idx → EReal) : S8x20000x4.Idx → EReal := fun i =>
  min (sz (ix2 (i 0) ((![1, 0, 1, 0] : Fin 4 → Fin 2) (i 2)))) (max 0 (x i))

/-- The greatest of a box's 80 class scores. -/
def best (cls : S8x20000x80.Idx → EReal) (b : Fin 8) (n : Fin 20000) : EReal :=
  (Finset.univ : Finset (Fin 80)).fold max (Ideal.ofBits .f32 0xFF800000#32) fun k => cls (ix3 b n k)

/-- A box's score: the greatest where it passes the threshold, the large negative word elsewhere. -/
def scores (cls : S8x20000x80.Idx → EReal) : S8x20000.Idx → EReal := fun i =>
  if Ideal.ofBits .f32 0x3D4CCCCD#32 < best cls (i 0) (i 1) then best cls (i 0) (i 1) else Ideal.ofBits .f32 0xCE6E6B28#32

/-- A box's label: the first class at which the greatest score stands. -/
def labels (cls : S8x20000x80.Idx → EReal) : S8x20000.Idx → BitVec 32 := fun i =>
  (Finset.univ : Finset (Fin 80)).fold IntOp.minsi 2147483647#32 fun k =>
    if cls (ix3 (i 0) (i 1) k) = best cls (i 0) (i 1) then BitVec.ofNat 32 k.val else 80#32

/-! ### Suppression among the candidates, at the ideal values -/

/-- A nonnegative side: the greater of a difference and zero. -/
def side (p q : EReal) : EReal := max (q - p) 0

/-- The area of a box given by its four coordinates. -/
def area (x : Fin 4 → EReal) : EReal := side (x 0) (x 2) * side (x 1) (x 3)

/-- The area two boxes share. -/
def inter (x y : Fin 4 → EReal) : EReal :=
  side (max (x 0) (y 0)) (min (x 2) (y 2)) * side (max (x 1) (y 1)) (min (x 3) (y 3))

/-- The least denominator the overlap divides by. -/
def tiny : EReal := Ideal.ofBits .f32 0x3089705F#32

/-- Intersection over union. -/
def overlap (x y : Fin 4 → EReal) : EReal :=
  Ideal.div (inter x y) (max (area x + area y - inter x y) tiny)

/-- The candidates still kept after the first `k` of them have suppressed the later ones they overlap by more than half. -/
def keep (start : Fin 8 → Fin 1000 → Bool) (iou : Fin 8 → Fin 1000 → Fin 1000 → EReal) : ℕ → Fin 8 → Fin 1000 → Bool
  | 0 => start
  | k + 1 => fun b j =>
    if h : k < 1000 then
      keep start iou k b j && !(keep start iou k b ⟨k, h⟩ && decide (Ideal.ofBits .f32 0x3F000000#32 < iou b ⟨k, h⟩ j)
        && decide (k < j.val))
    else keep start iou k b j

/-- The candidates that pass the score threshold, as the suppression starts. -/
def start (vals : S8x1000.Idx → EReal) (b : Fin 8) (j : Fin 1000) : Bool :=
  decide (Ideal.ofBits .f32 0x3D4CCCCD#32 < vals (ix2 b j))

/-- The overlaps of the candidate boxes. -/
def ious (cb : S8x1000x4.Idx → EReal) (b : Fin 8) (i j : Fin 1000) : EReal :=
  overlap (fun d => cb (ix3 b i d)) (fun d => cb (ix3 b j d))

/-- The mask of the candidates kept at the end. -/
def keepMask (vals : S8x1000.Idx → EReal) (cb : S8x1000x4.Idx → EReal) : IVec S8x1000 1 :=
  fun i => BitVec.ofBool (keep (start vals) (ious cb) 1000 (i 0) (i 1))

end Cert.Detect

end
-- ==== Proof.KernelHost.lean ====
/-
  The kernel's host operations read stage by stage: what the checked gathers, the keep selection and the final top-k leave in
  the buffers the later stages read.
-/
module

public import proofs.«01_k».proof.Proof.Gen.KernelIdeal.Frame
public import proofs.«01_k».proof.Proof.Take
public import proofs.«01_k».proof.Proof.Spec

@[expose] public section

set_option maxRecDepth 16384

noncomputable section

namespace Cert.KernelIdeal.Detect

open Idealize.ShloMosaic Idealize.ShloMosaic.TcCoe
open Cert.KernelIdeal Cert.KernelIdeal.Gen Cert.Detect

variable {F : FTy → Type} [FloatOps F]

/-- What a checked gather computes from the positions it is given, in the printed operations, is the plain gather: the wrap
    of negative entries is idle and the range mask holds. The mask of the range test reaches the result through `B`. -/
theorem checked {α : Type} {s si t r : Shape} {axes : List (Fin si.rank)} {n : Nat} (G : GatherDims s si t) (x : s.Idx → α)
    (idx z w z' l : IVec si 32) (init : IVec S_ 1) (fill : t.Idx → α) (hr : si.ReducesTo axes r) (B : IVec r 1 → IVec t 1)
    (hB : ∀ b : IVec r 1, (∀ j, b j = 1#1) → ∀ j, B b j = 1#1) (h : Positions n idx) (hn : n ≤ 20000)
    (hz : ∀ i, z i = 0#32) (hz' : ∀ i, z' i = 0#32) (hl : ∀ i, l i = BitVec.ofNat 32 (n - 1)) (hi : ∀ i, init i = 1#1) :
    select (B (Host.reduce IntOp.andi (andi (cmpi .sge (select (cmpi .slt idx z) w idx) z')
        (cmpi .sle (select (cmpi .slt idx z) w idx) l)) init hr h_S_))
      (Host.gather G x (select (cmpi .slt idx z) w idx)) fill = Host.gather G x idx := by
  rw [h.wrap hn _ _ hz]
  exact select_ones _ _ _ (hB _ fun j => h.inRange hn _ _ _ hr h_S_ hz' hl hi j)

/-- The same where the index array is given without its unit axis and reshaped after the wrap. -/
theorem checked' {α : Type} {s s0 si t r : Shape} {axes : List (Fin si.rank)} {n : Nat} (G : GatherDims s si t) (x : s.Idx → α)
    (idx z w : IVec s0 32) (z' l : IVec si 32) (init : IVec S_ 1) (fill : t.Idx → α) (hr : si.ReducesTo axes r)
    (C : s0.ShapeCasts si) (B : IVec r 1 → IVec t 1)
    (hB : ∀ b : IVec r 1, (∀ j, b j = 1#1) → ∀ j, B b j = 1#1) (h : Positions n idx) (hn : n ≤ 20000)
    (hz : ∀ i, z i = 0#32) (hz' : ∀ i, z' i = 0#32) (hl : ∀ i, l i = BitVec.ofNat 32 (n - 1)) (hi : ∀ i, init i = 1#1) :
    select (B (Host.reduce IntOp.andi (andi (cmpi .sge (shapeCast si (select (cmpi .slt idx z) w idx) C) z')
        (cmpi .sle (shapeCast si (select (cmpi .slt idx z) w idx) C) l)) init hr h_S_))
      (Host.gather G x (shapeCast si (select (cmpi .slt idx z) w idx) C)) fill = Host.gather G x (shapeCast si idx C) := by
  rw [h.wrap hn _ _ hz]
  have h' : Positions n (shapeCast si idx C) := fun i => h _
  exact select_ones _ _ _ (hB _ fun j => h'.inRange hn _ _ _ hr h_S_ hz' hl hi j)

/-- The first checked gather, of boxes at positions of the 20000 candidates. -/
theorem call0 (V : Valuation τ sig (Elt F)) (h : Positions (s := S8x1000x1) 20000 (V (Proc.devRef .tc main_v3))) :
    StableHlo.after hostOps1_1 V (Proc.devRef .tc main_v4)
      = Host.gather gather_S8x20000x4_S8x1000x1_S8x1000x4_2_1_0_0_1_2_114 (V (Proc.devRef .tc main_v0_0)) (V (Proc.devRef .tc main_v3)) := by
  after_results_simp
  simp only [StableHlo.TRef.ofBuf_toBuf]
  exact checked _ _ _ _ _ _ _ _ _ _ (fun b : IVec S8x1000 1 => broadcastInDim S8x1000x4 ![0, 1] bcast_S8x1000_S8x1000x4_0_1 b) (fun _ hb _ => hb _) h
    (by decide) (fun _ => rfl) (fun _ => rfl) (fun _ => rfl) (fun _ => rfl)

/-- The second, of labels there. -/
theorem call1 (V : Valuation τ sig (Elt F)) (h : Positions (s := S8x1000) 20000 (V (Proc.devRef .tc main_indices))) :
    StableHlo.after hostOps1_2 V (Proc.devRef .tc main_v5)
      = Host.gather gather_S8x20000_S8x1000x1_S8x1000_n_1_0_0_1_2_11 (V (Proc.devRef .tc main_v2))
          (shapeCast S8x1000x1 (V (Proc.devRef .tc main_indices)) shapeCasts_S8x1000_S8x1000x1) := by
  after_results_simp
  simp only [StableHlo.TRef.ofBuf_toBuf]
  exact checked' _ _ _ _ _ _ _ _ _ _ _ id (fun _ hb _ => hb _) h
    (by decide) (fun _ => rfl) (fun _ => rfl) (fun _ => rfl) (fun _ => rfl)

/-- The third, of candidate boxes at positions of the 1000 candidates. -/
theorem call3 (V : Valuation τ sig (Elt F)) (h : Positions (s := S8x300x1) 1000 (V (Proc.devRef .tc main_v16))) :
    StableHlo.after hostOps2_3 V (Proc.devRef .tc main_v17)
      = Host.gather gather_S8x1000x4_S8x300x1_S8x300x4_2_1_0_0_1_2_114 (V (Proc.devRef .tc main_v4)) (V (Proc.devRef .tc main_v16)) := by
  after_results_simp
  simp only [StableHlo.TRef.ofBuf_toBuf]
  exact checked _ _ _ _ _ _ _ _ _ _ (fun b : IVec S8x300 1 => broadcastInDim S8x300x4 ![0, 1] bcast_S8x300_S8x300x4_0_1 b) (fun _ hb _ => hb _) h
    (by decide) (fun _ => rfl) (fun _ => rfl) (fun _ => rfl) (fun _ => rfl)

/-- The fourth, of candidate labels there. -/
theorem call6 (V : Valuation τ sig (Elt F)) (h : Positions (s := S8x300) 1000 (V (Proc.devRef .tc main_indices_2))) :
    StableHlo.after hostOps2_9 V (Proc.devRef .tc main_v21)
      = Host.gather gather_S8x1000_S8x300x1_S8x300_n_1_0_0_1_2_11 (V (Proc.devRef .tc main_v5))
          (shapeCast S8x300x1 (V (Proc.devRef .tc main_indices_2)) shapeCasts_S8x300_S8x300x1) := by
  after_results_simp
  simp only [StableHlo.TRef.ofBuf_toBuf]
  exact checked' _ _ _ _ _ _ _ _ _ _ _ id (fun _ hb _ => hb _) h
    (by decide) (fun _ => rfl) (fun _ => rfl) (fun _ => rfl) (fun _ => rfl)

end Cert.KernelIdeal.Detect

end
-- ==== Proof.KernelOut.lean ====
/-
  The kernel's host operations read along the whole program: the candidates the second region is given, and the results,
  from the buffers the regions leave.
-/
module

public import proofs.«01_k».proof.Proof.KernelHost

@[expose] public section

set_option maxRecDepth 16384

noncomputable section

namespace Cert.KernelIdeal.Detect

open Idealize.ShloMosaic Idealize.ShloMosaic.TcCoe
open Cert.KernelIdeal Cert.KernelIdeal.Gen Cert.Detect

variable {F : FTy → Type} [FloatOps F]
variable (m : (ℓ : Loc nD τ sig) → Buf (Elt F) ℓ) (ρ : Dev nD → PrngReg) (c : Dev nD)

/-- The boxes the first region leaves. -/
def bx : FVec F S8x20000x4 .f32 := W1 m ρ c (Proc.devRef .tc main_v0_0)
/-- The scores it leaves, a row of 20000 for each image. -/
def sc : FVec F S8x20000 .f32 := shapeCast S8x20000 (show FVec F S8x20000x1 .f32 from W1 m ρ c (Proc.devRef .tc main_v0_1)) shapeCasts_S8x20000x1_S8x20000
/-- The labels it leaves. -/
def lb : IVec S8x20000 32 := shapeCast S8x20000 (show IVec S8x20000x1 32 from W1 m ρ c (Proc.devRef .tc main_v0_2)) shapeCasts_S8x20000x1_S8x20000

/-- Adding a unit axis last, by a reshape or by a broadcast. -/
theorem cast_last1000 (x : IVec S8x1000 32) : shapeCast S8x1000x1 x shapeCasts_S8x1000_S8x1000x1
    = broadcastInDim S8x1000x1 ![0, 1] bcast_S8x1000_S8x1000x1_0_1 x := by
  funext j
  idx_vars j
  pointwise

/-- The same at 300. -/
theorem cast_last300 (x : IVec S8x300 32) : shapeCast S8x300x1 x shapeCasts_S8x300_S8x300x1
    = broadcastInDim S8x300x1 ![0, 1] bcast_S8x300_S8x300x1_0_1 x := by
  funext j
  idx_vars j
  pointwise

/-- The first top-k's indices are positions among the 20000. -/
theorem topI_pos (s : FVec F S8x20000 .f32) : Positions 20000 (topI s) := fun i => by
  obtain ⟨p, e⟩ := topK_pos S8x1000 1 (by decide) (FloatOps.cmpfTotal .gt) s sliceFits_S8x20000_S8x1000 i
  exact ⟨p.val, p.isLt, e⟩

/-- The second top-k's are positions among the 1000. -/
theorem finI_pos (k : IVec S8x1000 1) (v : FVec F S8x1000 .f32) : Positions 1000 (finI k v) := fun i => by
  obtain ⟨p, e⟩ := topK_pos S8x300 1 (by decide) (FloatOps.cmpfTotal .gt) (kept k v) sliceFits_S8x1000_S8x300 i
  exact ⟨p.val, p.isLt, e⟩

theorem W2_values : W2 m ρ c (Proc.devRef .tc main_values) = topV (sc m ρ c) := by
  show StableHlo.after hostOps1 (W1 m ρ c) _ = _
  after_results_simp
  rfl

theorem W2_indices : W2 m ρ c (Proc.devRef .tc main_indices) = topI (sc m ρ c) := by
  show StableHlo.after hostOps1 (W1 m ρ c) _ = _
  after_results_simp
  rfl

theorem W2_v2 : W2 m ρ c (Proc.devRef .tc main_v2) = lb m ρ c := by
  show StableHlo.after hostOps1 (W1 m ρ c) _ = _
  after_results_simp
  rfl

theorem W2_v3 : W2 m ρ c (Proc.devRef .tc main_v3)
    = broadcastInDim S8x1000x1 ![0, 1] bcast_S8x1000_S8x1000x1_0_1 (topI (sc m ρ c)) := by
  show StableHlo.after hostOps1 (W1 m ρ c) _ = _
  after_results_simp
  rfl

theorem W3_v4 : W3 m ρ c (Proc.devRef .tc main_v4) = candB (bx m ρ c) (sc m ρ c) := by
  have e := W2_v3 m ρ c
  refine (call0 (W2 m ρ c) (fun i => ?_)).trans ?_
  · rw [e]; exact topI_pos _ _
  · rw [e, W2_of m ρ c main_v0_0 (by decide)]; rfl

theorem W4_v5 : W4 m ρ c (Proc.devRef .tc main_v5) = candL (lb m ρ c) (sc m ρ c) := by
  have e : W3 m ρ c (Proc.devRef .tc main_indices) = topI (sc m ρ c) :=
    (W3_of m ρ c main_indices (by decide)).trans (W2_indices m ρ c)
  have e' : W3 m ρ c (Proc.devRef .tc main_v2) = lb m ρ c :=
    (W3_of m ρ c main_v2 (by decide)).trans (W2_v2 m ρ c)
  refine (call1 (W3 m ρ c) (fun i => ?_)).trans ?_
  · rw [e]; exact topI_pos _ _
  · rw [e, e', cast_last1000]; rfl

/-- The candidate boxes at the second region's entry. -/
theorem W5_v4 : W5 m ρ c (Proc.devRef .tc main_v4) = candB (bx m ρ c) (sc m ρ c) :=
  (W5_of m ρ c main_v4 (by decide)).trans ((W4_of m ρ c main_v4 (by decide)).trans (W3_v4 m ρ c))

theorem W5_v5 : W5 m ρ c (Proc.devRef .tc main_v5) = candL (lb m ρ c) (sc m ρ c) :=
  (W5_of m ρ c main_v5 (by decide)).trans (W4_v5 m ρ c)

theorem W4_values : W4 m ρ c (Proc.devRef .tc main_values) = topV (sc m ρ c) :=
  (W4_of m ρ c main_values (by decide)).trans ((W3_of m ρ c main_values (by decide)).trans (W2_values m ρ c))

theorem W5_values : W5 m ρ c (Proc.devRef .tc main_values) = topV (sc m ρ c) :=
  (W5_of m ρ c main_values (by decide)).trans (W4_values m ρ c)

/-- The transposed candidate boxes there. -/
theorem W5_v6 : W5 m ρ c (Proc.devRef .tc main_v6)
    = transpose S8x4x1000 [0, 2, 1] (candB (bx m ρ c) (sc m ρ c)) transposes_S8x1000x4_S8x4x1000_0_2_1 := by
  have e : W4 m ρ c (Proc.devRef .tc main_v4) = candB (bx m ρ c) (sc m ρ c) :=
    (W4_of m ρ c main_v4 (by decide)).trans (W3_v4 m ρ c)
  rw [← e]
  show StableHlo.after hostOps1_3 (W4 m ρ c) _ = _
  after_results_simp

/-- The candidate scores there, as one row for each image. -/
theorem W5_v7 : W5 m ρ c (Proc.devRef .tc main_v7)
    = shapeCast S8x1x1000 (topV (sc m ρ c)) shapeCasts_S8x1000_S8x1x1000 := by
  rw [← W4_values m ρ c]
  show StableHlo.after hostOps1_3 (W4 m ρ c) _ = _
  after_results_simp
  rfl

/-- The mask of kept candidates the host reads off the second region's output. -/
def mask : IVec S8x1000 1 :=
  cmpf .ogt (shapeCast S8x1000 (show FVec F S8x1x1000 .f32 from W6 m ρ c (Proc.devRef .tc main_v8)) shapeCasts_S8x1x1000_S8x1000)
    (fun _ => FloatOps.ofBits .f32 0x3F000000#32)

theorem W7_v11 : W7 m ρ c (Proc.devRef .tc main_v11) = mask m ρ c := by
  show StableHlo.after hostOps2 (W6 m ρ c) _ = _
  after_results_simp
  rfl

theorem W7_cst0 : W7 m ρ c (Proc.devRef .tc main_cst_0) = constant S_ .f32 0xCE6E6B28#32 := by
  show StableHlo.after hostOps2 (W6 m ρ c) _ = _
  after_results_simp

theorem W7_values : W7 m ρ c (Proc.devRef .tc main_values) = topV (sc m ρ c) :=
  (W7_of m ρ c main_values (by decide)).trans ((W6_of m ρ c main_values (by decide)).trans (W5_values m ρ c))

theorem W8_v12 : W8 m ρ c (Proc.devRef .tc main_v12) = kept (mask m ρ c) (topV (sc m ρ c)) := by
  rw [← W7_values m ρ c, ← W7_v11 m ρ c]
  have e := W7_cst0 m ρ c
  show StableHlo.after hostOps2_1 (W7 m ρ c) _ = _
  generalize W7 m ρ c = V at e ⊢
  after_results_simp
  rw [e]
  rfl

/-- The second top-k and what is derived from it directly. -/
theorem W9_fin : W9 m ρ c (Proc.devRef .tc main_values_1) = finV (mask m ρ c) (topV (sc m ρ c))
    ∧ W9 m ρ c (Proc.devRef .tc main_indices_2) = finI (mask m ρ c) (topV (sc m ρ c))
    ∧ W9 m ρ c (Proc.devRef .tc main_v14) = finOk (mask m ρ c) (topV (sc m ρ c))
    ∧ W9 m ρ c (Proc.devRef .tc main_v15)
      = broadcastInDim S8x300x1 ![0, 1] bcast_S8x300_S8x300x1_0_1 (finOk (mask m ρ c) (topV (sc m ρ c)))
    ∧ W9 m ρ c (Proc.devRef .tc main_v16)
      = broadcastInDim S8x300x1 ![0, 1] bcast_S8x300_S8x300x1_0_1 (finI (mask m ρ c) (topV (sc m ρ c))) := by
  unfold finOk finV finI
  rw [← W8_v12 m ρ c]
  show StableHlo.after hostOps2_2 (W8 m ρ c) _ = _ ∧ StableHlo.after hostOps2_2 (W8 m ρ c) _ = _
    ∧ StableHlo.after hostOps2_2 (W8 m ρ c) _ = _ ∧ StableHlo.after hostOps2_2 (W8 m ρ c) _ = _
    ∧ StableHlo.after hostOps2_2 (W8 m ρ c) _ = _
  generalize W8 m ρ c = V
  refine ⟨?_, ?_, ?_, ?_, ?_⟩ <;> after_results_simp <;> rfl

theorem W10_v17 : W10 m ρ c (Proc.devRef .tc main_v17)
    = Host.gather gather_S8x1000x4_S8x300x1_S8x300x4_2_1_0_0_1_2_114 (candB (bx m ρ c) (sc m ρ c))
        (broadcastInDim S8x300x1 ![0, 1] bcast_S8x300_S8x300x1_0_1 (finI (mask m ρ c) (topV (sc m ρ c)))) := by
  have e := (W9_fin m ρ c).2.2.2.2
  have e' : W9 m ρ c (Proc.devRef .tc main_v4) = candB (bx m ρ c) (sc m ρ c) :=
    (W9_of m ρ c main_v4 (by decide)).trans ((W8_of m ρ c main_v4 (by decide)).trans ((W7_of m ρ c main_v4 (by decide)).trans
      ((W6_of m ρ c main_v4 (by decide)).trans (W5_v4 m ρ c))))
  refine (call3 (W9 m ρ c) (fun i => ?_)).trans ?_
  · rw [e]; exact finI_pos _ _ _
  · rw [e, e']

/-- The first result. -/
theorem W19_v18 : W19 m ρ c (Proc.devRef .tc main_v18)
    = outB (mask m ρ c) (topV (sc m ρ c)) (candB (bx m ρ c) (sc m ρ c)) := by
  rw [W19_of m ρ c main_v18 (by decide), W18_of m ρ c main_v18 (by decide), W17_of m ρ c main_v18 (by decide),
    W16_of m ρ c main_v18 (by decide), W15_of m ρ c main_v18 (by decide), W14_of m ρ c main_v18 (by decide),
    W13_of m ρ c main_v18 (by decide)]
  have e1 : W11 m ρ c (Proc.devRef .tc main_v17) = _ := (W11_of m ρ c main_v17 (by decide)).trans (W10_v17 m ρ c)
  have e2 : W11 m ρ c (Proc.devRef .tc main_v15) = _ :=
    (W11_of m ρ c main_v15 (by decide)).trans ((W10_of m ρ c main_v15 (by decide)).trans (W9_fin m ρ c).2.2.2.1)
  have e3 : W11 m ρ c (Proc.devRef .tc main_cst_4) = constant S_ .f32 0xBF800000#32 := by
    show StableHlo.after hostOps2_4 (W10 m ρ c) _ = _
    after_results_simp
  show StableHlo.after hostOps2_5 (W11 m ρ c) _ = _
  unfold outB
  rw [← e1, ← e2]
  generalize W11 m ρ c = V at e3 ⊢
  after_results_simp
  rw [e3]
  rfl

/-- The second. -/
theorem W19_v20 : W19 m ρ c (Proc.devRef .tc main_v20) = outS (mask m ρ c) (topV (sc m ρ c)) := by
  rw [W19_of m ρ c main_v20 (by decide), W18_of m ρ c main_v20 (by decide), W17_of m ρ c main_v20 (by decide),
    W16_of m ρ c main_v20 (by decide)]
  have h9 := W9_fin m ρ c
  have e1 : W13 m ρ c (Proc.devRef .tc main_v14) = _ :=
    (W13_of m ρ c main_v14 (by decide)).trans ((W12_of m ρ c main_v14 (by decide)).trans ((W11_of m ρ c main_v14 (by decide)).trans
      ((W10_of m ρ c main_v14 (by decide)).trans h9.2.2.1)))
  have e2 : W13 m ρ c (Proc.devRef .tc main_values_1) = _ :=
    (W13_of m ρ c main_values_1 (by decide)).trans ((W12_of m ρ c main_values_1 (by decide)).trans
      ((W11_of m ρ c main_values_1 (by decide)).trans ((W10_of m ρ c main_values_1 (by decide)).trans h9.1)))
  have e3 : W13 m ρ c (Proc.devRef .tc main_cst_5) = constant S_ .f32 0xBF800000#32 := by
    show StableHlo.after hostOps2_6 (W12 m ρ c) _ = _
    after_results_simp
  have e4 : W14 m ρ c (Proc.devRef .tc main_v19) = select (finOk (mask m ρ c) (topV (sc m ρ c)))
      (finV (mask m ρ c) (topV (sc m ρ c))) (fun _ => FloatOps.ofBits .f32 0xBF800000#32) := by
    rw [← e1, ← e2]
    show StableHlo.after hostOps2_7 (W13 m ρ c) _ = _
    generalize W13 m ρ c = V at e3 ⊢
    after_results_simp
    rw [e3]
    rfl
  unfold outS
  rw [← e4]
  show StableHlo.after hostOps2_8 (W14 m ρ c) _ = _
  after_results_simp

/-- The third. -/
theorem W19_v24 : W19 m ρ c (Proc.devRef .tc main_v24)
    = outL (mask m ρ c) (topV (sc m ρ c)) (candL (lb m ρ c) (sc m ρ c)) := by
  have h9 := W9_fin m ρ c
  have e1 : W15 m ρ c (Proc.devRef .tc main_indices_2) = _ :=
    (W15_of m ρ c main_indices_2 (by decide)).trans ((W14_of m ρ c main_indices_2 (by decide)).trans
      ((W13_of m ρ c main_indices_2 (by decide)).trans ((W12_of m ρ c main_indices_2 (by decide)).trans
      ((W11_of m ρ c main_indices_2 (by decide)).trans ((W10_of m ρ c main_indices_2 (by decide)).trans h9.2.1)))))
  have e2 : W15 m ρ c (Proc.devRef .tc main_v5) = _ :=
    (W15_of m ρ c main_v5 (by decide)).trans ((W14_of m ρ c main_v5 (by decide)).trans
      ((W13_of m ρ c main_v5 (by decide)).trans ((W12_of m ρ c main_v5 (by decide)).trans
      ((W11_of m ρ c main_v5 (by decide)).trans ((W10_of m ρ c main_v5 (by decide)).trans
      ((W9_of m ρ c main_v5 (by decide)).trans ((W8_of m ρ c main_v5 (by decide)).trans ((W7_of m ρ c main_v5 (by decide)).trans
      ((W6_of m ρ c main_v5 (by decide)).trans (W5_v5 m ρ c))))))))))
  have e3 : W17 m ρ c (Proc.devRef .tc main_v14) = _ :=
    (W17_of m ρ c main_v14 (by decide)).trans ((W16_of m ρ c main_v14 (by decide)).trans ((W15_of m ρ c main_v14 (by decide)).trans
      ((W14_of m ρ c main_v14 (by decide)).trans
      ((W13_of m ρ c main_v14 (by decide)).trans ((W12_of m ρ c main_v14 (by decide)).trans
      ((W11_of m ρ c main_v14 (by decide)).trans ((W10_of m ρ c main_v14 (by decide)).trans h9.2.2.1)))))))
  have e4 : W16 m ρ c (Proc.devRef .tc main_v21) = Host.gather gather_S8x1000_S8x300x1_S8x300_n_1_0_0_1_2_11 (candL (lb m ρ c) (sc m ρ c))
        (broadcastInDim S8x300x1 ![0, 1] bcast_S8x300_S8x300x1_0_1 (finI (mask m ρ c) (topV (sc m ρ c)))) := by
    refine (call6 (W15 m ρ c) (fun i => ?_)).trans ?_
    · rw [e1]; exact finI_pos _ _ _
    · rw [e1, e2, cast_last300]
  have e5 : W17 m ρ c (Proc.devRef .tc main_v22) = sitofp .f32 (show IVec S8x300 32 from W16 m ρ c (Proc.devRef .tc main_v21)) := by
    show StableHlo.after hostOps2_10 (W16 m ρ c) _ = _
    after_results_simp
  have e6 : W17 m ρ c (Proc.devRef .tc main_cst_6) = constant S_ .f32 0xBF800000#32 := by
    show StableHlo.after hostOps2_10 (W16 m ρ c) _ = _
    after_results_simp
  rw [e4] at e5
  unfold outL
  have e7 : W18 m ρ c (Proc.devRef .tc main_v23) = select (finOk (mask m ρ c) (topV (sc m ρ c)))
      (sitofp .f32 (Host.gather gather_S8x1000_S8x300x1_S8x300_n_1_0_0_1_2_11 (candL (lb m ρ c) (sc m ρ c))
        (broadcastInDim S8x300x1 ![0, 1] bcast_S8x300_S8x300x1_0_1 (finI (mask m ρ c) (topV (sc m ρ c))))))
      (fun _ => FloatOps.ofBits .f32 0xBF800000#32) := by
    refine Eq.trans ?_ (congrArg₂ (fun a b => select a b (fun _ => FloatOps.ofBits .f32 0xBF800000#32)) e3 e5)
    show StableHlo.after hostOps2_11 (W17 m ρ c) _ = _
    generalize W17 m ρ c = V at e6 ⊢
    after_results_simp
    rw [e6]
    rfl
  rw [← e7]
  show StableHlo.after hostOps2_12 (W18 m ρ c) _ = _
  after_results_simp

end Cert.KernelIdeal.Detect

end
-- ==== Proof.PrepPay.lean ====
/-
  What the first region computes of one block of boxes and class scores, at an index.
-/
module

public import proofs.«01_k».proof.Proof.Gen.KernelIdeal.Skeleton
public import proofs.«01_k».proof.Proof.Spec

@[expose] public section

set_option maxRecDepth 16384

noncomputable section

namespace Cert.KernelIdeal.Detect

open Idealize.ShloMosaic Idealize.ShloMosaic.TcCoe
open Cert.KernelIdeal Cert.KernelIdeal.Gen Cert.Detect

/-- The greatest class score of a block's row. -/
theorem pay2_apply (v3 : FVec Ideal S2000x80 .f32) (n : Fin 2000) : k0_pay2 v3 (ix2 n 0)
    = (Finset.univ : Finset (Fin 80)).fold max (Ideal.ofBits .f32 0xFF800000#32) fun k => v3 (ix2 n k) := by
  pointwise [k0_pay2]

theorem pay3_apply (v3 : FVec Ideal S2000x80 .f32) (n : Fin 2000) : k0_pay3 v3 (ix3 0 n 0)
    = if Ideal.ofBits .f32 0x3D4CCCCD#32 < k0_pay2 v3 (ix2 n 0) then k0_pay2 v3 (ix2 n 0) else Ideal.ofBits .f32 0xCE6E6B28#32 := by
  unfold k0_pay3
  generalize k0_pay2 v3 = y
  pointwise

theorem pay4_apply (v3 : FVec Ideal S2000x80 .f32) (n : Fin 2000) : k0_pay4 v3 (ix3 0 n 0)
    = (Finset.univ : Finset (Fin 80)).fold IntOp.minsi 2147483647#32 fun k =>
      if v3 (ix2 n k) = k0_pay2 v3 (ix2 n 0) then BitVec.ofNat 32 k.val else 80#32 := by
  unfold k0_pay4
  generalize k0_pay2 v3 = y
  pointwise

theorem select_eq_word {α : Type} (x y : BitVec 32) (p q : α) :
    Scalar.select (IntOp.cmpi .eq x y) p q = if x = y then p else q := by
  by_cases h : x = y
  · simp [Scalar.select, IntOp.cmpi, h]
  · have hb : (x == y) = false := by simpa using h
    simp [Scalar.select, IntOp.cmpi, h, hb]

theorem fold_two (f : Fin 1 × Fin 2 → EReal) :
    Finset.fold max (Ideal.ofBits .f32 0xFF800000#32) f Finset.univ = max (f (0, 0)) (f (0, 1)) := by
  rw [show (Finset.univ : Finset (Fin 1 × Fin 2)) = insert (0, 0) {(0, 1)} from by decide, Finset.fold_insert (by decide),
    Finset.fold_singleton, bits_bot, max_bot_right]

/-- The width bound: the greatest of zero and the sizes row's second entry. -/
theorem pay7_eq (v5 : FVec Ideal S1x2 .f32) : k0_pay7 v5 = max 0 (v5 (ix2 0 1)) := by
  unfold k0_pay7
  pointwise [bits_zero]
  rw [fold_two]
  rfl

theorem pay8_eq (v5 : FVec Ideal S1x2 .f32) : k0_pay8 v5 = max 0 (v5 (ix2 0 0)) := by
  unfold k0_pay8
  pointwise [bits_zero]
  rw [fold_two, max_comm]
  rfl

/-- The remainder by two of a coordinate's number. -/
theorem parity : ∀ d : Fin 4, (if (select (k0_pay10) (k0_pay11) (k0_pay9) : IVec S1x4 32) (ix2 0 d) = 0#32 then (1 : Fin 2) else 0)
    = (![1, 0, 1, 0] : Fin 4 → Fin 2) d := by
  decide

theorem pay1_apply (v1 : FVec Ideal S2000x4 .f32) (p q : EReal) (a : IVec S1x4 32) (b : IVec S1x4 1) (e : IVec S1x4 32)
    (n : Fin 2000) (d : Fin 4) : k0_pay1 (F := Ideal) v1 p q a b e (ix3 0 n d)
      = min (if select b e a (ix2 0 d) = 0#32 then p else q) (max 0 (v1 (ix2 n d))) := by
  unfold k0_pay1
  pointwise [bits_zero]
  rw [select_eq_word]
  rfl

end Cert.KernelIdeal.Detect

end
-- ==== Proof.PrepValue.lean ====
/-
  What the first launch leaves in its three arrays: the clipped boxes, the scores and the labels.
-/
module

public import proofs.«01_k».proof.Proof.KernelOut
public import proofs.«01_k».proof.Proof.PrepPay
public import Idealize.ShloMosaic.Lib.Pipeline.ValueKit

@[expose] public section

set_option maxRecDepth 16384

noncomputable section

namespace Cert.KernelIdeal.Detect

open Idealize.ShloMosaic Idealize.ShloMosaic.TcCoe
open Cert.KernelIdeal Cert.KernelIdeal.Gen Cert.Detect

variable (m : (ℓ : Loc nD τ sig) → Buf (Elt Ideal) ℓ) (ρ : Dev nD → PrngReg) (c : Dev nD)

/-- The points' blocks of the five windows that move, and of the sizes, which stay. -/
theorem where0 : ∀ t : Fin cfg0.N, (cfg0.win 0).index t = ![(grid0.coords t 0).val, (grid0.coords t 1).val, 0]
    ∧ (cfg0.win 1).index t = ![(grid0.coords t 0).val, (grid0.coords t 1).val, 0]
    ∧ (cfg0.win 2).index t = ![0, 0]
    ∧ (cfg0.win 3).index t = ![(grid0.coords t 0).val, (grid0.coords t 1).val, 0]
    ∧ (cfg0.win 4).index t = ![(grid0.coords t 0).val, (grid0.coords t 1).val, 0]
    ∧ (cfg0.win 5).index t = ![(grid0.coords t 0).val, (grid0.coords t 1).val, 0] := by
  decide +kernel

/-- The kernel's boxes on a device. -/
def inX : S8x20000x4.Idx → EReal := m ((c : Thread nD τ).loc main_arg0)
/-- Its class scores. -/
def inC : S8x20000x80.Idx → EReal := m ((c : Thread nD τ).loc main_arg1)
/-- Its image sizes. -/
def inZ : S8x2.Idx → EReal := m ((c : Thread nD τ).loc main_arg2)

theorem class_at (t : Fin cfg0.N) (n : Fin 2000) (b : Fin 8) (k : Fin 20000) (q : Fin 80) (hb : b.val = (grid0.coords t 0).val)
    (hk : k.val = (grid0.coords t 1).val * 2000 + n.val) :
    k0_pay6 (F := Ideal) (iblk0 (V0 m ρ) c 1 t) (ix2 n q) = inC m c (ix3 b k q) := by
  unfold k0_pay6
  pointwise
  blk_ext [iblk0, V0, inC, (where0 t).2.1]

theorem best_at (t : Fin cfg0.N) (n : Fin 2000) (b : Fin 8) (k : Fin 20000) (hb : b.val = (grid0.coords t 0).val)
    (hk : k.val = (grid0.coords t 1).val * 2000 + n.val) :
    k0_pay2 (F := Ideal) (k0_pay6 (iblk0 (V0 m ρ) c 1 t)) (ix2 n 0) = best (inC m c) b k := by
  rw [pay2_apply]
  unfold best
  refine congrArg (fun f => (Finset.univ : Finset (Fin 80)).fold max _ f) (funext fun q => ?_)
  exact class_at m ρ c t n b k q hb hk

theorem scores_point (t : Fin cfg0.N) (y : S1x2000x1.Idx) (i : S8x20000x1.Idx) (h0 : (i 0).val = (grid0.coords t 0).val)
    (h1 : (i 1).val = (grid0.coords t 1).val * 2000 + (y 1).val) :
    k0_pay3 (F := Ideal) (k0_pay6 (iblk0 (V0 m ρ) c 1 t)) y = scores (inC m c) (ix2 (i 0) (i 1)) := by
  have ey : y = ix3 0 (y 1) 0 := by
    funext a
    fin_cases a
    · exact Subsingleton.elim (α := Fin 1) _ _
    · rfl
    · exact Subsingleton.elim (α := Fin 1) _ _
  rw [ey]
  refine (pay3_apply _ (y 1)).trans ?_
  rw [best_at m ρ c t (y 1) (i 0) (i 1) h0 h1]
  rfl

theorem labels_point (t : Fin cfg0.N) (y : S1x2000x1.Idx) (i : S8x20000x1.Idx) (h0 : (i 0).val = (grid0.coords t 0).val)
    (h1 : (i 1).val = (grid0.coords t 1).val * 2000 + (y 1).val) :
    k0_pay4 (F := Ideal) (k0_pay6 (iblk0 (V0 m ρ) c 1 t)) y = labels (inC m c) (ix2 (i 0) (i 1)) := by
  have ey : y = ix3 0 (y 1) 0 := by
    funext a
    fin_cases a
    · exact Subsingleton.elim (α := Fin 1) _ _
    · rfl
    · exact Subsingleton.elim (α := Fin 1) _ _
  rw [ey]
  refine (pay4_apply _ (y 1)).trans ?_
  rw [best_at m ρ c t (y 1) (i 0) (i 1) h0 h1]
  unfold labels
  refine congrArg (fun f => (Finset.univ : Finset (Fin 80)).fold IntOp.minsi _ f) (funext fun q => ?_)
  rw [class_at m ρ c t (y 1) (i 0) (i 1) q h0 h1]
  rfl

theorem scores_arr : (dat0 (V0 m ρ) c).arrAt 4 cfg0.N = fun i => scores (inC m c) (ix2 (i 0) (i 1)) := by
  refine (dat0 (V0 m ρ) c).arrAt_eq_of_covers 4 _ (by decide +kernel) fun t hf y => ?_
  blk_simp
  rw [after0_4]
  unfold outsAt0
  frame_out
  refine scores_point m ρ c t y _ ?_ ?_
  · blk_simp [(where0 t).2.2.2.2.1]
  · blk_simp [(where0 t).2.2.2.2.1]

theorem labels_arr : (dat0 (V0 m ρ) c).arrAt 5 cfg0.N = fun i => labels (inC m c) (ix2 (i 0) (i 1)) := by
  refine (dat0 (V0 m ρ) c).arrAt_eq_of_covers 5 _ (by decide +kernel) fun t hf y => ?_
  blk_simp
  rw [after0_5]
  unfold outsAt0
  frame_out
  refine labels_point m ρ c t y _ ?_ ?_
  · blk_simp [(where0 t).2.2.2.2.2]
  · blk_simp [(where0 t).2.2.2.2.2]

theorem boxes_point (hz : ∀ i, 0 ≤ inZ m c i) (t : Fin cfg0.N) (w : FVec Ideal S1x2 .f32) (y : S1x2000x4.Idx) (i : S8x20000x4.Idx)
    (hw : ∀ q : Fin 2, w (ix2 0 q) = inZ m c (ix2 (i 0) q))
    (h0 : (i 0).val = (grid0.coords t 0).val) (h1 : (i 1).val = (grid0.coords t 1).val * 2000 + (y 1).val) (h2 : (i 2).val = (y 2).val) :
    k0_pay1 (F := Ideal) (k0_pay5 (iblk0 (V0 m ρ) c 0 t)) (k0_pay7 w) (k0_pay8 w) k0_pay9 k0_pay10 k0_pay11 y = clipped (inX m c) (inZ m c) i := by
  have ey : y = ix3 0 (y 1) (y 2) := by
    funext a
    fin_cases a
    · exact Subsingleton.elim (α := Fin 1) _ _
    · rfl
    · rfl
  have e2 : y 2 = i 2 := Fin.ext h2.symm
  rw [ey]
  refine (pay1_apply _ _ _ _ _ _ (y 1) (y 2)).trans ?_
  have ex : k0_pay5 (F := Ideal) (iblk0 (V0 m ρ) c 0 t) (ix2 (y 1) (y 2)) = inX m c i := by
    unfold k0_pay5
    pointwise
    blk_ext [iblk0, V0, inX, (where0 t).1]
  have ez : ∀ d : Fin 4, (if (select (k0_pay10) (k0_pay11) (k0_pay9) : IVec S1x4 32) (ix2 0 d) = 0#32 then k0_pay7 (F := Ideal) w else k0_pay8 w)
      = inZ m c (ix2 (i 0) ((![1, 0, 1, 0] : Fin 4 → Fin 2) d)) := fun d => by
    rw [← parity d, pay7_eq, pay8_eq, hw, hw, max_eq_right (hz _), max_eq_right (hz _)]
    split <;> rfl
  rw [ex]
  exact (congrArg (fun s => min s (max 0 (inX m c i))) (ez (y 2))).trans
    (congrArg (fun d : Fin 4 => min (inZ m c (ix2 (i 0) ((![1, 0, 1, 0] : Fin 4 → Fin 2) d))) (max 0 (inX m c i))) e2)

theorem boxes_arr (hz : ∀ i, 0 ≤ inZ m c i) : (dat0 (V0 m ρ) c).arrAt 3 cfg0.N = clipped (inX m c) (inZ m c) := by
  refine (dat0 (V0 m ρ) c).arrAt_eq_of_covers 3 _ (by decide +kernel) fun t hf y => ?_
  blk_simp
  rw [after0_3]
  unfold outsAt0
  frame_out
  refine boxes_point m ρ c hz t _ y _ (fun q => ?_) ?_ ?_ ?_
  · rw [View.ld_apply]
    have e := congrFun (k0_off1_eq (grid0.coords t))
    blk_ext [iblk0, V0, inZ, (where0 t).2.2.1, (where0 t).2.2.2.1, k0_off1_eq (grid0.coords t)]
    · exact (Rect.idx_unit_val _ _ _ _ 0).trans (by rw [e 0]; rfl)
    · exact (Rect.idx_unit_val _ _ _ _ 1).trans (by rw [e 1]; exact Nat.zero_add _)
  · blk_simp [(where0 t).2.2.2.1]
  · blk_simp [(where0 t).2.2.2.1]
  · blk_simp [(where0 t).2.2.2.1]

/-- The boxes, scores and labels the first launch leaves. -/
theorem bx_eq (hz : ∀ i, 0 ≤ inZ m c i) : bx m ρ c = clipped (inX m c) (inZ m c) :=
  (W1_arr m ρ c 3).trans (boxes_arr m ρ c hz)

theorem sc_eq : sc m ρ c = scores (inC m c) := by
  unfold sc
  rw [show W1 m ρ c (Proc.devRef .tc main_v0_1) = _ from (W1_arr m ρ c 4).trans (scores_arr m ρ c)]
  funext i
  idx_vars i
  pointwise

theorem lb_eq : lb m ρ c = labels (inC m c) := by
  unfold lb
  rw [show W1 m ρ c (Proc.devRef .tc main_v0_2) = _ from (W1_arr m ρ c 5).trans (labels_arr m ρ c)]
  funext i
  idx_vars i
  pointwise

end Cert.KernelIdeal.Detect
-- ==== Proof.RefRun.lean ====
/-
  The reference read along its program: what the stretches before the suppression loop compute, what the loop leaves alone,
  and the results from the buffers after it.
-/
module

public import proofs.«01_k».proof.Proof.Gen.ReferenceIdeal.Run
public import Idealize.ShloMosaic.Lib.Pipeline.Frame

@[expose] public section

set_option maxRecDepth 16384

noncomputable section

namespace Cert.ReferenceIdeal.Detect

open Idealize.ShloMosaic Idealize.ShloMosaic.TcCoe Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (c : Dev nD)

/-- The contents before the loop. -/
abbrev E : Valuation τ sig (Elt F) := entryContents preI m c

/-- The contents after it. -/
abbrev Z : Valuation τ sig (Elt F) := after condOps (atK m 1000 c)

/-- What the loop's operations write. -/
def loopW : List (Ref sig .tc) := condOps_W ++ while0Ops0_W ++ while0Ops0_1_W ++ while0Ops0_2_W ++ while0Ops0_3_W

/-- A buffer none of the loop's operations writes is after any number of trips as before the loop. -/
theorem atK_keeps (r : Ref sig .tc) (h : r ∉ loopW) : ∀ k, atK m k c (Proc.devRef .tc r) = E m c (Proc.devRef .tc r)
  | 0 => rfl
  | k + 1 => by
    simp only [loopW, List.mem_append, not_or] at h
    obtain ⟨⟨⟨⟨h0, h1⟩, h2⟩, h3⟩, h4⟩ := h
    rw [show atK m (k + 1) c = afterL bodyI (after condOps (atK m k c)) from rfl]
    simp only [afterL_cons, afterL_nil]
    rw [after_of_writes_sub _ _ while0Ops0_3_writes h4, after_of_writes_sub _ _ while0Ops0_2_writes h3,
      after_of_writes_sub _ _ while0Ops0_1_writes h2, after_of_writes_sub _ _ while0Ops0_writes h1,
      after_of_writes_sub _ _ condOps_writes h0, atK_keeps r (by
        simp only [loopW, List.mem_append, not_or]; exact ⟨⟨⟨⟨h0, h1⟩, h2⟩, h3⟩, h4⟩) k]
    rfl

/-- The same after the loop's last test. -/
theorem Z_keeps (r : Ref sig .tc) (h : r ∉ loopW) : Z m c (Proc.devRef .tc r) = E m c (Proc.devRef .tc r) := by
  have h0 : r ∉ condOps_W := fun hr => h (by simp only [loopW, List.mem_append]; exact .inl (.inl (.inl (.inl hr))))
  rw [show Z m c = after condOps (atK m 1000 c) from rfl, after_of_writes_sub _ _ condOps_writes h0, atK_keeps m c r h]

theorem final_eq : finalContents condOps preI bodyI postI 1000 m c = afterL postI (Z m c) := rfl

/-- What the operations before the loop write. -/
def preW : List (Ref sig .tc) := hostOps0_W ++ hostOps0_1_W ++ hostOps0_2_W ++ hostOps0_3_W ++ hostOps0_4_W ++ hostOps0_5_W
  ++ hostOps0_6_W ++ hostOps0_7_W ++ hostOps0_8_W ++ hostOps0_9_W ++ hostOps0_10_W ++ hostOps0_11_W ++ hostOps0_12_W

/-- A buffer they do not write is at the loop's entry as launched. -/
theorem E_keeps (r : Ref sig .tc) (h : r ∉ preW) : E m c (Proc.devRef .tc r) = m ((c.tc : Thread nD τ).loc r) := by
  simp only [preW, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  show entryContents preI m c (Proc.devRef .tc r) = _
  simp only [entryContents, afterL_cons, afterL_nil]
  rw [after_of_writes_sub _ _ hostOps0_12_writes h12, after_of_writes_sub _ _ hostOps0_11_writes h11,
    after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The arguments after the whole program are as launched. -/
theorem final_arg (r : Ref sig .tc) (h : r = main_arg0 ∨ r = main_arg1 ∨ r = main_arg2) :
    finalContents condOps preI bodyI postI 1000 m c (Proc.devRef .tc r) = m ((c.tc : Thread nD τ).loc r) := by
  rw [final_eq]
  refine Eq.trans ?_ ((Z_keeps m c r ?_).trans (E_keeps m c r ?_))
  · generalize Z m c = V
    simp only [afterL_cons, afterL_nil]
    rcases h with rfl | rfl | rfl <;> after_reads_simp
  · rcases h with rfl | rfl | rfl <;> decide
  · rcases h with rfl | rfl | rfl <;> decide

end Cert.ReferenceIdeal.Detect

end
-- ==== Proof.ArgMax.lean ====
/-
  The first class with the greatest score, computed two ways: the reference's pass that carries a score and its index, and the
  least index among those at which the greatest score stands.
-/
module

public import proofs.«01_k».proof.ReferenceIdeal
public import proofs.«01_k».proof.Proof.Spec
public import Idealize.ShloMosaic.PureOps.Ideal.Laws

@[expose] public section

set_option maxRecDepth 16384

noncomputable section

namespace Cert.ReferenceIdeal.Detect

open Idealize.ShloMosaic Idealize.ShloMosaic.TcCoe
open Cert.ReferenceIdeal Cert.ReferenceIdeal.Facts₀ Cert.Detect

variable [Facts₀]

/-- One step of the pass: it keeps the pair with the greater score, and of equal scores the lesser index. -/
theorem pick_cases (a b : EReal × BitVec 32) :
    (reducer_argmax_f32_i32 (F := Ideal) a b = a ∧ (b.1 < a.1 ∨ a.1 = b.1 ∧ a.2.toInt < b.2.toInt))
      ∨ (reducer_argmax_f32_i32 (F := Ideal) a b = b ∧ (a.1 < b.1 ∨ a.1 = b.1 ∧ b.2.toInt ≤ a.2.toInt)) := by
  obtain ⟨a1, a2⟩ := a
  obtain ⟨b1, b2⟩ := b
  rcases lt_trichotomy a1 b1 with h | h | h
  · right
    refine ⟨?_, .inl h⟩
    simp [reducer_argmax_f32_i32, Ideal.cmpf_def, Ideal.cmp, IntOp.ori, IntOp.andi, Scalar.select, h.not_gt, h.ne]
  · subst h
    by_cases hi : a2.toInt < b2.toInt
    · left
      refine ⟨?_, .inr ⟨rfl, hi⟩⟩
      simp [reducer_argmax_f32_i32, Ideal.cmpf_def, Ideal.cmp, IntOp.ori, IntOp.andi, IntOp.cmpi, BitVec.slt, Scalar.select, hi]
    · right
      refine ⟨?_, .inr ⟨rfl, not_lt.mp hi⟩⟩
      simp [reducer_argmax_f32_i32, Ideal.cmpf_def, Ideal.cmp, IntOp.ori, IntOp.andi, IntOp.cmpi, BitVec.slt, Scalar.select, hi]
  · left
    refine ⟨?_, .inl h⟩
    have h1 : ∀ x : BitVec 1, 1#1 ||| x = 1#1 := by decide
    simp [reducer_argmax_f32_i32, Ideal.cmpf_def, Ideal.cmp, IntOp.ori, IntOp.andi, Scalar.select, h, h1]

/-- The pass over a list ends at one of its pairs or the initial one, with no greater score among them and, at that score, no
    lesser index. -/
theorem pass_spec (l : List (EReal × BitVec 32)) : ∀ i : EReal × BitVec 32,
    (l.foldl (reducer_argmax_f32_i32 (F := Ideal)) i = i ∨ l.foldl (reducer_argmax_f32_i32 (F := Ideal)) i ∈ l)
      ∧ ∀ q, (q = i ∨ q ∈ l) → q.1 < (l.foldl (reducer_argmax_f32_i32 (F := Ideal)) i).1
        ∨ q.1 = (l.foldl (reducer_argmax_f32_i32 (F := Ideal)) i).1
          ∧ (l.foldl (reducer_argmax_f32_i32 (F := Ideal)) i).2.toInt ≤ q.2.toInt := by
  induction l with
  | nil =>
    intro i
    refine ⟨.inl rfl, fun q hq => ?_⟩
    rcases hq with rfl | hq
    · exact .inr ⟨rfl, le_rfl⟩
    · cases hq
  | cons a l ih =>
    intro i
    rw [List.foldl_cons]
    have c := pick_cases i a
    obtain ⟨hm, hd⟩ := ih (reducer_argmax_f32_i32 (F := Ideal) i a)
    generalize hp : l.foldl (reducer_argmax_f32_i32 (F := Ideal)) (reducer_argmax_f32_i32 (F := Ideal) i a) = p at hm hd ⊢
    have h0 := hd _ (.inl rfl)
    rcases c with ⟨e, hc⟩ | ⟨e, hc⟩
    · rw [e] at hm h0
      refine ⟨hm.imp id (List.mem_cons_of_mem _), fun q hq => ?_⟩
      rcases hq with rfl | hq
      · exact h0
      rcases List.mem_cons.mp hq with rfl | hq
      · rcases hc with hc | ⟨hc, hi⟩
        · rcases h0 with h0 | ⟨h0, -⟩
          · exact .inl (hc.trans h0)
          · exact .inl (hc.trans_eq h0)
        · rcases h0 with h0 | ⟨h0, h0i⟩
          · exact .inl (hc ▸ h0)
          · exact .inr ⟨hc ▸ h0, h0i.trans hi.le⟩
      · exact hd q (.inr hq)
    · rw [e] at hm h0
      refine ⟨.inr (hm.elim (fun h => h ▸ List.mem_cons_self ..) (List.mem_cons_of_mem _)), fun q hq => ?_⟩
      rcases hq with rfl | hq
      · rcases hc with hc | ⟨hc, hi⟩
        · rcases h0 with h0 | ⟨h0, -⟩
          · exact .inl (hc.trans h0)
          · exact .inl (hc.trans_eq h0)
        · rcases h0 with h0 | ⟨h0, h0i⟩
          · exact .inl (hc ▸ h0)
          · exact .inr ⟨hc.trans h0, h0i.trans hi⟩
      rcases List.mem_cons.mp hq with rfl | hq
      · exact h0
      · exact hd q (.inr hq)

/-- The least of some words, as signed integers, is any of them that is at most the others. -/
theorem fold_min_eq {n : Nat} (f : Fin n → BitVec 32) (z v : BitVec 32) (k : Fin n) (hk : f k = v)
    (hle : ∀ i, v.toInt ≤ (f i).toInt) (hz : v.toInt ≤ z.toInt) :
    (Finset.univ : Finset (Fin n)).fold IntOp.minsi z f = v := by
  have hm : ∀ a b : BitVec 32, (IntOp.minsi a b).toInt = min a.toInt b.toInt := fun a b => by
    unfold IntOp.minsi
    by_cases h : a.toInt < b.toInt
    · simp [BitVec.slt, h, h.le]
    · simp [BitVec.slt, h, not_lt.mp h]
  refine BitVec.eq_of_toInt_eq ?_
  rw [← Finset.fold_hom hm]
  refine le_antisymm ?_ ?_
  · rw [Finset.fold_min_le]
    exact .inr ⟨k, Finset.mem_univ _, by rw [hk]⟩
  · rw [Finset.le_fold_min]
    exact ⟨hz, fun i _ => hle i⟩

theorem ofNat_toInt (k : Nat) (h : k < 20000) : (BitVec.ofNat 32 k).toInt = (k : Int) := by
  rw [BitVec.toInt_eq_toNat_cond, BitVec.toNat_ofNat, Nat.mod_eq_of_lt (by omega), if_pos (by omega)]

/-- The reference's index of the greatest class score is the label. -/
theorem argmax_label (cls : FVec Ideal S8x20000x80 .f32) (j : S8x20000.Idx) :
    (Host.argReduce (reducer_argmax_f32_i32 (F := Ideal)) cls (iotaInDim S8x20000x80 32 2) (constant S_ .f32 0xFF800000#32)
      (constantI S_ 32 0#32) reducesTo_S8x20000x80_S8x20000_d2 h_S_ j).2 = labels cls j := by
  have H : Shape.Reduces S8x20000x80 [2] S8x20000 := by decide
  idx_vars j
  have hlift : ∀ k : Fin 80, H.lift (ix2 j0 j1) k = ix3 j0 j1 k := fun k => by
    funext a; match a with | ⟨0, _⟩ => rfl | ⟨1, _⟩ => rfl | ⟨2, _⟩ => rfl
  rw [Ideal.argReduce_eq_reduce2, Host.reduce2_eq_foldl_fiber]
  have hfib : ∀ p : EReal × BitVec 32, p ∈ Host.argReduceFiber (α := EReal) cls (iotaInDim S8x20000x80 32 2)
      reducesTo_S8x20000x80_S8x20000_d2 (ix2 j0 j1) ↔ ∃ k : Fin 80, p = (cls (ix3 j0 j1 k), BitVec.ofNat 32 k.val) := by
    intro p
    unfold Host.argReduceFiber
    simp only [List.mem_map, List.mem_filter, List.mem_finRange, true_and, decide_eq_true_eq, exists_exists_and_eq_and]
    constructor
    · rintro ⟨n, hn, rfl⟩
      generalize S8x20000x80.rowMajor.symm n = i at hn ⊢
      rw [Shape.ReducesTo.drop_eq_drop _ H] at hn
      have e := H.lift_drop i
      rw [hn] at e
      refine ⟨i 2, ?_⟩
      exact congrArg (fun i => (cls i, iotaInDim S8x20000x80 32 2 i)) (e.symm.trans (hlift (i 2)))
    · rintro ⟨k, rfl⟩
      refine ⟨S8x20000x80.rowMajor (ix3 j0 j1 k), ?_, ?_⟩
      · rw [Equiv.symm_apply_apply, Shape.ReducesTo.drop_eq_drop _ H, ← hlift]
        exact H.drop_lift (ix2 j0 j1) k
      · rw [Equiv.symm_apply_apply]
        rfl
  have hbot : Ideal.ofBits .f32 0xFF800000#32 = ⊥ := bits_bot
  obtain ⟨hm, hd⟩ := pass_spec (Host.argReduceFiber (α := EReal) cls (iotaInDim S8x20000x80 32 2)
      reducesTo_S8x20000x80_S8x20000_d2 (ix2 j0 j1)) (Ideal.ofBits .f32 0xFF800000#32, 0#32)
  change (List.foldl _ (Ideal.ofBits .f32 0xFF800000#32, 0#32) _).2 = _
  generalize List.foldl (reducer_argmax_f32_i32 (F := Ideal)) (Ideal.ofBits .f32 0xFF800000#32, 0#32) _ = p at hm hd ⊢
  have hle : ∀ k : Fin 80, cls (ix3 j0 j1 k) ≤ p.1 := fun k => by
    rcases hd _ (.inr ((hfib _).mpr ⟨k, rfl⟩)) with h | ⟨h, -⟩
    · exact h.le
    · exact h.le
  have hpk : ∃ k : Fin 80, p = (cls (ix3 j0 j1 k), BitVec.ofNat 32 k.val) := by
    rcases hm with h | h
    · refine ⟨0, ?_⟩
      have := hle 0
      rw [h, hbot] at this ⊢
      rw [le_bot_iff.mp this]
      rfl
    · exact (hfib p).mp h
  have hbest : best cls j0 j1 = p.1 := by
    obtain ⟨k, e⟩ := hpk
    refine le_antisymm ?_ ?_
    · unfold best
      rw [Finset.fold_max_le]
      exact ⟨hbot ▸ bot_le, fun k _ => hle k⟩
    · unfold best
      rw [Finset.le_fold_max]
      exact .inr ⟨k, Finset.mem_univ _, by rw [e]⟩
  obtain ⟨k, e⟩ := hpk
  have e2 : p.2 = BitVec.ofNat 32 k.val := by rw [e]
  refine (fold_min_eq _ _ _ k ?_ (fun i => ?_) ?_).symm
  · show (if cls (ix3 j0 j1 k) = best cls j0 j1 then BitVec.ofNat 32 k.val else 80#32) = p.2
    rw [if_pos (by rw [hbest, e]), e2]
  · show p.2.toInt ≤ (if cls (ix3 j0 j1 i) = best cls j0 j1 then BitVec.ofNat 32 i.val else 80#32).toInt
    split
    · rename_i hi
      rcases hd _ (.inr ((hfib _).mpr ⟨i, rfl⟩)) with h | ⟨-, h⟩
      · exact absurd (hi.trans hbest) h.ne
      · exact h
    · rw [e2, ofNat_toInt _ (by omega), show (80#32 : BitVec 32).toInt = 80 from by decide]
      omega
  · rw [e2, ofNat_toInt _ (by omega), show (2147483647#32 : BitVec 32).toInt = 2147483647 from by decide]
    omega

end Cert.ReferenceIdeal.Detect

end
-- ==== Proof.RefFront.lean ====
/-
  The reference's operations before the candidates are picked: the clipped boxes, the scores and the labels.
-/
module

public import proofs.«01_k».proof.Proof.RefRun
public import proofs.«01_k».proof.Proof.ArgMax
public import Idealize.ShloMosaic.Lib.StableHlo.ReadAt

@[expose] public section

set_option maxRecDepth 16384

noncomputable section

namespace Cert.ReferenceIdeal.Detect

open Idealize.ShloMosaic Idealize.ShloMosaic.TcCoe Idealize.ShloMosaic.StableHlo
open Cert.ReferenceIdeal Cert.ReferenceIdeal.Gen Cert.ReferenceIdeal.Value
open Cert.Detect

/-- The stretches that clip the coordinates. -/
abbrev clipI : List (List (HloOp τ sig (Elt Ideal))) :=
  [hostOps0, hostOps0_1, hostOps0_2, hostOps0_3, hostOps0_4, hostOps0_5, hostOps0_6, hostOps0_7]

/-- The stretches from the greatest scores to the thresholded ones. -/
abbrev scoreI : List (List (HloOp τ sig (Elt Ideal))) := [hostOps0_9, hostOps0_10, hostOps0_11]

/-- The four clipped coordinates put side by side. -/
theorem stack_v24 (V : Valuation τ sig (Elt Ideal)) (x0 x1 x2 x3 : S8x20000.Idx → EReal)
    (h0 : V (Proc.devRef .tc main_v4) = x0) (h1 : V (Proc.devRef .tc main_v9) = x1)
    (h2 : V (Proc.devRef .tc main_v14) = x2) (h3 : V (Proc.devRef .tc main_v19) = x3)
    (y : S8x20000x4.Idx → EReal) (hy : ∀ b n, y (ix3 b n 0) = x0 (ix2 b n) ∧ y (ix3 b n 1) = x1 (ix2 b n)
      ∧ y (ix3 b n 2) = x2 (ix2 b n) ∧ y (ix3 b n 3) = x3 (ix2 b n)) :
    after hostOps0_8 V (Proc.devRef .tc main_v24) = y := by
  after_reads_simp
  have e0 : upto hostOps0_8 V 4 (Proc.devRef .tc main_v20)
      = broadcastInDim S8x20000x1 ![0, 1] bcast_S8x20000_S8x20000x1_0_1 x0 := by
    rw [← h0]; unfold upto; simp only [List.take_succ_cons, List.take_zero]; after_reads_simp
  have e1 : upto hostOps0_8 V 4 (Proc.devRef .tc main_v21)
      = broadcastInDim S8x20000x1 ![0, 1] bcast_S8x20000_S8x20000x1_0_1 x1 := by
    rw [← h1]; unfold upto; simp only [List.take_succ_cons, List.take_zero]; after_reads_simp
  have e2 : upto hostOps0_8 V 4 (Proc.devRef .tc main_v22)
      = broadcastInDim S8x20000x1 ![0, 1] bcast_S8x20000_S8x20000x1_0_1 x2 := by
    rw [← h2]; unfold upto; simp only [List.take_succ_cons, List.take_zero]; after_reads_simp
  have e3 : upto hostOps0_8 V 4 (Proc.devRef .tc main_v23)
      = broadcastInDim S8x20000x1 ![0, 1] bcast_S8x20000_S8x20000x1_0_1 x3 := by
    rw [← h3]; unfold upto; simp only [List.take_succ_cons, List.take_zero]; after_reads_simp
  show concatenate S8x20000x4 2
      [⟨S8x20000x1, upto hostOps0_8 V 4 (Proc.devRef .tc main_v20)⟩,
        ⟨S8x20000x1, upto hostOps0_8 V 4 (Proc.devRef .tc main_v21)⟩,
        ⟨S8x20000x1, upto hostOps0_8 V 4 (Proc.devRef .tc main_v22)⟩,
        ⟨S8x20000x1, upto hostOps0_8 V 4 (Proc.devRef .tc main_v23)⟩] _ = _
  rw [e0, e1, e2, e3]
  funext i
  idx_vars i
  obtain ⟨y0, y1, y2, y3⟩ := hy i0 i1
  fin_cases i2
  · pointwise; exact y0.symm
  · pointwise; exact y1.symm
  · pointwise; exact y2.symm
  · pointwise; exact y3.symm

section Clip

variable (V : Valuation τ sig (Elt Ideal)) (x : S8x20000x4.Idx → EReal) (z : S8x2.Idx → EReal)
  (hx : V (Proc.devRef .tc main_arg0) = x) (hz : V (Proc.devRef .tc main_arg2) = z)

include hx hz

theorem clip_v4 : afterL clipI V (Proc.devRef .tc main_v4)
    = fun i : S8x20000.Idx => min (z (ix2 (i 0) 1)) (max 0 (x (ix3 (i 0) (i 1) 0))) := by
  simp only [afterL_cons, afterL_nil]
  after_reads_simp
  simp -implicitDefEqProofs only [StableHlo.TRef.toBuf, StableHlo.TRef.ofBuf, cast_cast, cast_eq]
  clean_types
  rw [hx, hz]
  funext i
  idx_vars i
  pointwise [bits_zero, id]

theorem clip_v9 : afterL clipI V (Proc.devRef .tc main_v9)
    = fun i : S8x20000.Idx => min (z (ix2 (i 0) 0)) (max 0 (x (ix3 (i 0) (i 1) 1))) := by
  simp only [afterL_cons, afterL_nil]
  after_reads_simp
  simp -implicitDefEqProofs only [StableHlo.TRef.toBuf, StableHlo.TRef.ofBuf, cast_cast, cast_eq]
  clean_types
  rw [hx, hz]
  funext i
  idx_vars i
  pointwise [bits_zero, id]

theorem clip_v14 : afterL clipI V (Proc.devRef .tc main_v14)
    = fun i : S8x20000.Idx => min (z (ix2 (i 0) 1)) (max 0 (x (ix3 (i 0) (i 1) 2))) := by
  simp only [afterL_cons, afterL_nil]
  after_reads_simp
  simp -implicitDefEqProofs only [StableHlo.TRef.toBuf, StableHlo.TRef.ofBuf, cast_cast, cast_eq]
  clean_types
  rw [hx, hz]
  funext i
  idx_vars i
  pointwise [bits_zero, id]

theorem clip_v19 : afterL clipI V (Proc.devRef .tc main_v19)
    = fun i : S8x20000.Idx => min (z (ix2 (i 0) 0)) (max 0 (x (ix3 (i 0) (i 1) 3))) := by
  simp only [afterL_cons, afterL_nil]
  after_reads_simp
  simp -implicitDefEqProofs only [StableHlo.TRef.toBuf, StableHlo.TRef.ofBuf, cast_cast, cast_eq]
  clean_types
  rw [hx, hz]
  funext i
  idx_vars i
  pointwise [bits_zero, id]

/-- The reference's clipped boxes. -/
theorem clip_v24 : after hostOps0_8 (afterL clipI V) (Proc.devRef .tc main_v24) = clipped x z :=
  stack_v24 _ _ _ _ _ (clip_v4 V x z hx hz) (clip_v9 V x z hx hz) (clip_v14 V x z hx hz) (clip_v19 V x z hx hz) _
    fun _ _ => ⟨rfl, rfl, rfl, rfl⟩

end Clip

/-- The reference's greatest scores. -/
theorem best_v25 (V : Valuation τ sig (Elt Ideal)) (cls : S8x20000x80.Idx → EReal)
    (h : V (Proc.devRef .tc main_arg1) = cls) :
    after hostOps0_8 V (Proc.devRef .tc main_v25) = fun i : S8x20000.Idx => best cls (i 0) (i 1) := by
  after_reads_simp
  clean_types
  rw [h]
  funext i
  idx_vars i
  pointwise [best]

/-- The reference's thresholded scores. -/
theorem score_v29 (V : Valuation τ sig (Elt Ideal)) (cls : S8x20000x80.Idx → EReal)
    (h : V (Proc.devRef .tc main_v25) = fun i : S8x20000.Idx => best cls (i 0) (i 1)) :
    afterL scoreI V (Proc.devRef .tc main_v29) = scores cls := by
  simp only [afterL_cons, afterL_nil]
  after_reads_simp
  simp -implicitDefEqProofs only [StableHlo.TRef.toBuf, StableHlo.TRef.ofBuf, cast_cast, cast_eq]
  clean_types
  rw [h]
  funext i
  idx_vars i
  pointwise [scores, id]

/-- The reference's labels. -/
theorem score_v26 (V : Valuation τ sig (Elt Ideal)) :
    afterL scoreI V (Proc.devRef .tc main_v26) = labels (V (Proc.devRef .tc main_arg1)) := by
  simp only [afterL_cons, afterL_nil]
  after_reads_simp
  simp -implicitDefEqProofs only [StableHlo.TRef.toBuf, StableHlo.TRef.ofBuf, cast_cast, cast_eq]
  clean_types
  simp only [argmax_label]

/-- The contents once the candidates can be picked. -/
abbrev front (V : Valuation τ sig (Elt Ideal)) : Valuation τ sig (Elt Ideal) :=
  afterL scoreI (after hostOps0_8 (afterL clipI V))

section Front

variable (V : Valuation τ sig (Elt Ideal)) (x : S8x20000x4.Idx → EReal) (cls : S8x20000x80.Idx → EReal) (z : S8x2.Idx → EReal)

theorem front_v24 (hx : V (Proc.devRef .tc main_arg0) = x) (hz : V (Proc.devRef .tc main_arg2) = z) :
    front V (Proc.devRef .tc main_v24) = clipped x z := by
  refine Eq.trans ?_ (clip_v24 V x z hx hz)
  show afterL scoreI (after hostOps0_8 (afterL clipI V)) _ = _
  generalize after hostOps0_8 (afterL clipI V) = U
  simp only [afterL_cons, afterL_nil]
  after_reads_simp

theorem front_arg1 (h : V (Proc.devRef .tc main_arg1) = cls) :
    after hostOps0_8 (afterL clipI V) (Proc.devRef .tc main_arg1) = cls := by
  rw [← h]
  simp only [afterL_cons, afterL_nil]
  after_reads_simp

theorem front_v29 (h : V (Proc.devRef .tc main_arg1) = cls) : front V (Proc.devRef .tc main_v29) = scores cls := by
  refine score_v29 _ _ (best_v25 _ _ ?_)
  rw [← h]
  simp only [afterL_cons, afterL_nil]
  after_reads_simp

theorem front_v26 (h : V (Proc.devRef .tc main_arg1) = cls) : front V (Proc.devRef .tc main_v26) = labels cls := by
  exact (score_v26 _).trans (congrArg labels (front_arg1 V cls h))

end Front

end Cert.ReferenceIdeal.Detect

end
-- ==== Proof.RefPost.lean ====
/-
  The reference's operations after the suppression loop: the results, from the mask the loop leaves and the candidates.
-/
module

public import proofs.«01_k».proof.Proof.RefRun
public import proofs.«01_k».proof.Proof.Take
public import proofs.«01_k».proof.Proof.KernelOut

@[expose] public section

set_option maxRecDepth 16384

noncomputable section

namespace Cert.ReferenceIdeal.Detect

open Idealize.ShloMosaic Idealize.ShloMosaic.TcCoe Idealize.ShloMosaic.StableHlo
open Cert.ReferenceIdeal Cert.ReferenceIdeal.Gen Cert.ReferenceIdeal.Value
open Cert.Detect

variable {F : FTy → Type} [FloatOps F]

/-- What the second top-k and its uses leave: the stretch after the selection of kept scores, from the mask, the scores and
    the candidates. -/
theorem sel_v99 (V : Valuation τ sig (Elt F)) :
    after hostOps0_14 (after hostOps0_13 V) (Proc.devRef .tc main_v99)
      = kept (V (Proc.devRef .tc main_v98_4)) (V (Proc.devRef .tc main_values)) := by
  after_reads_simp
  simp only [StableHlo.TRef.ofBuf_toBuf]
  rfl

/-- The wrapped indices of the second top-k are the indices. -/
theorem wrap300 (x : FVec F S8x1000 .f32) (w : IVec S8x300 32) :
    select (cmpi .slt (Host.topK S8x300 1 (FloatOps.cmpfTotal .gt) x sliceFits_S8x1000_S8x300).2
        (broadcastInDim S8x300 ![] bcast_S_S8x300 (constantI S_ 32 0#32))) w
        (Host.topK S8x300 1 (FloatOps.cmpfTotal .gt) x sliceFits_S8x1000_S8x300).2
      = (Host.topK S8x300 1 (FloatOps.cmpfTotal .gt) x sliceFits_S8x1000_S8x300).2 :=
  Positions.wrap (n := 1000) (fun i => by
    obtain ⟨p, e⟩ := topK_pos S8x300 1 (by decide) (FloatOps.cmpfTotal .gt) x sliceFits_S8x1000_S8x300 i
    exact ⟨p.val, p.isLt, e⟩) (by decide) _ w (fun _ => rfl)

theorem post_v110 (V : Valuation τ sig (Elt F)) : afterL postI V (Proc.devRef .tc main_v110)
    = outB (V (Proc.devRef .tc main_v98_4)) (V (Proc.devRef .tc main_values)) (V (Proc.devRef .tc main_v36)) := by
  have e := sel_v99 V
  have e36 : after hostOps0_14 (after hostOps0_13 V) (Proc.devRef .tc main_v36) = V (Proc.devRef .tc main_v36) := by
    after_reads_simp
  unfold outB finOk finV finI
  rw [← e, ← e36]
  simp only [afterL_cons, afterL_nil]
  generalize after hostOps0_14 (after hostOps0_13 V) = U
  after_reads_simp
  simp only [StableHlo.TRef.ofBuf_toBuf]
  rw [wrap300]
  rfl

theorem post_v112 (V : Valuation τ sig (Elt F)) : afterL postI V (Proc.devRef .tc main_v112)
    = outS (V (Proc.devRef .tc main_v98_4)) (V (Proc.devRef .tc main_values)) := by
  have e := sel_v99 V
  unfold outS finOk finV
  rw [← e]
  simp only [afterL_cons, afterL_nil]
  generalize after hostOps0_14 (after hostOps0_13 V) = U
  after_reads_simp
  simp only [StableHlo.TRef.ofBuf_toBuf]
  rfl

theorem post_v122 (V : Valuation τ sig (Elt F)) : afterL postI V (Proc.devRef .tc main_v122)
    = outL (V (Proc.devRef .tc main_v98_4)) (V (Proc.devRef .tc main_values)) (V (Proc.devRef .tc main_v43)) := by
  have e := sel_v99 V
  have e43 : after hostOps0_14 (after hostOps0_13 V) (Proc.devRef .tc main_v43) = V (Proc.devRef .tc main_v43) := by
    after_reads_simp
  unfold outL finOk finV finI
  rw [← e, ← e43]
  simp only [afterL_cons, afterL_nil]
  generalize after hostOps0_14 (after hostOps0_13 V) = U
  after_reads_simp
  simp only [StableHlo.TRef.ofBuf_toBuf]
  rw [wrap300]
  rfl

end Cert.ReferenceIdeal.Detect

end
-- ==== Proof.RefPick.lean ====
/-
  The reference's candidates and what it computes of them before the suppression loop: the pairwise overlaps and the starting
  mask.
-/
module

public import proofs.«01_k».proof.Proof.RefFront
public import proofs.«01_k».proof.Proof.RefPost

@[expose] public section

set_option maxRecDepth 16384

noncomputable section

namespace Cert.ReferenceIdeal.Detect

open Idealize.ShloMosaic Idealize.ShloMosaic.TcCoe Idealize.ShloMosaic.StableHlo
open Cert.ReferenceIdeal Cert.ReferenceIdeal.Gen Cert.ReferenceIdeal.Value
open Cert.Detect

/-- The operations that pick the candidates. -/
abbrev pickOps : List (HloOp τ sig (Elt Ideal)) := hostOps0_12.take 20

/-- Those after them. -/
abbrev pairOps : List (HloOp τ sig (Elt Ideal)) := hostOps0_12.drop 20

theorem split12 (V : Valuation τ sig (Elt Ideal)) : after hostOps0_12 V = after pairOps (after pickOps V) := by
  rw [← after_append, List.take_append_drop]

/-- The wrapped indices of the first top-k are the indices. -/
theorem wrap1000 (x : FVec Ideal S8x20000 .f32) (w : IVec S8x1000 32) :
    select (cmpi .slt (topI x) (broadcastInDim S8x1000 ![] bcast_S_S8x1000 (constantI S_ 32 0#32))) w (topI x) = topI x :=
  Positions.wrap (n := 20000) (Cert.KernelIdeal.Detect.topI_pos x) (by decide) _ w (fun _ => rfl)

section Pick

variable (V : Valuation τ sig (Elt Ideal))

theorem pick_values : after pickOps V (Proc.devRef .tc main_values) = topV (F := Ideal) (V (Proc.devRef .tc main_v29)) := by
  simp only [pickOps, List.take_succ_cons, List.take_zero]
  after_reads_simp
  rfl

theorem pick_v36 : after pickOps V (Proc.devRef .tc main_v36)
    = candB (F := Ideal) (V (Proc.devRef .tc main_v24)) (V (Proc.devRef .tc main_v29)) := by
  have e := wrap1000 (V (Proc.devRef .tc main_v29))
  unfold topI at e
  simp only [pickOps, List.take_succ_cons, List.take_zero]
  after_reads_simp
  rw [e]
  rfl

theorem pick_v43 : after pickOps V (Proc.devRef .tc main_v43)
    = candL (F := Ideal) (V (Proc.devRef .tc main_v26)) (V (Proc.devRef .tc main_v29)) := by
  have e := wrap1000 (V (Proc.devRef .tc main_v29))
  unfold topI at e
  simp only [pickOps, List.take_succ_cons, List.take_zero]
  after_reads_simp
  rw [e]
  rfl

end Pick

section Pair

variable (V : Valuation τ sig (Elt Ideal)) (cb : S8x1000x4.Idx → EReal) (vals : S8x1000.Idx → EReal)

/-- The pairwise overlaps. -/
theorem pair_v98_0 (h : V (Proc.devRef .tc main_v36) = cb) : after pairOps V (Proc.devRef .tc main_v98_0)
    = fun i : S8x1000x1000.Idx => ious cb (i 0) (i 1) (i 2) := by
  simp only [pairOps, List.drop_succ_cons, List.drop_zero]
  after_reads_simp
  clean_types
  rw [h]
  funext i
  idx_vars i
  pointwise [ious, overlap, inter, area, side, tiny, bits_zero, id]

theorem pair_v98_1 : after pairOps V (Proc.devRef .tc main_v98_1) = iotaInDim S1000 32 0 := by
  simp only [pairOps, List.drop_succ_cons, List.drop_zero]
  after_reads_simp
  rfl

theorem pair_v98_3 : after pairOps V (Proc.devRef .tc main_v98_3) = fun _ => (0#32 : BitVec 32) := by
  simp only [pairOps, List.drop_succ_cons, List.drop_zero]
  after_reads_simp
  rfl

/-- The starting mask: the candidates over the score threshold. -/
theorem pair_v98_4 (h : V (Proc.devRef .tc main_values) = vals) : after pairOps V (Proc.devRef .tc main_v98_4)
    = fun i : S8x1000.Idx => BitVec.ofBool (start vals (i 0) (i 1)) := by
  simp only [pairOps, List.drop_succ_cons, List.drop_zero]
  after_reads_simp
  clean_types
  rw [h]
  funext i
  idx_vars i
  pointwise [start, id]

theorem pair_keeps (r : Ref sig .tc) (h : r = main_v36 ∨ r = main_v43 ∨ r = main_values) :
    after pairOps V (Proc.devRef .tc r) = V (Proc.devRef .tc r) := by
  simp only [pairOps, List.drop_succ_cons, List.drop_zero]
  rcases h with rfl | rfl | rfl <;> after_reads_simp

end Pair

section Entry

variable (m : (ℓ : Loc nD τ sig) → Buf (Elt Ideal) ℓ) (c : Dev nD)

/-- The three arguments on a device. -/
abbrev argX : S8x20000x4.Idx → EReal := m ((c.tc : Thread nD τ).loc main_arg0)
abbrev argC : S8x20000x80.Idx → EReal := m ((c.tc : Thread nD τ).loc main_arg1)
abbrev argZ : S8x2.Idx → EReal := m ((c.tc : Thread nD τ).loc main_arg2)

/-- The candidates' scores, boxes and labels as functions of the arguments. -/
abbrev vals : S8x1000.Idx → EReal := topV (F := Ideal) (scores (argC m c))
abbrev boxes : S8x1000x4.Idx → EReal := candB (F := Ideal) (clipped (argX m c) (argZ m c)) (scores (argC m c))
abbrev labs : IVec S8x1000 32 := candL (F := Ideal) (labels (argC m c)) (scores (argC m c))

theorem E_split : E m c = after pairOps (after pickOps (front (entryContents [] m c))) := by
  rw [← split12]
  rfl

theorem at_values : after pickOps (front (entryContents [] m c)) (Proc.devRef .tc main_values) = vals m c := by
  rw [pick_values, front_v29 _ (argC m c) rfl]

theorem at_v36 : after pickOps (front (entryContents [] m c)) (Proc.devRef .tc main_v36) = boxes m c := by
  rw [pick_v36, front_v29 _ (argC m c) rfl, front_v24 _ (argX m c) (argZ m c) rfl rfl]

theorem at_v43 : after pickOps (front (entryContents [] m c)) (Proc.devRef .tc main_v43) = labs m c := by
  rw [pick_v43, front_v29 _ (argC m c) rfl, front_v26 _ (argC m c) rfl]

theorem E_values : E m c (Proc.devRef .tc main_values) = vals m c := by
  rw [E_split, pair_keeps _ _ (.inr (.inr rfl)), at_values]

theorem E_v36 : E m c (Proc.devRef .tc main_v36) = boxes m c := by
  rw [E_split, pair_keeps _ _ (.inl rfl), at_v36]

theorem E_v43 : E m c (Proc.devRef .tc main_v43) = labs m c := by
  rw [E_split, pair_keeps _ _ (.inr (.inl rfl)), at_v43]

theorem E_v98_0 : E m c (Proc.devRef .tc main_v98_0) = fun i : S8x1000x1000.Idx => ious (boxes m c) (i 0) (i 1) (i 2) := by
  rw [E_split, pair_v98_0 _ _ (at_v36 m c)]

theorem E_v98_1 : E m c (Proc.devRef .tc main_v98_1) = iotaInDim S1000 32 0 := by
  rw [E_split, pair_v98_1]

theorem E_v98_3 : E m c (Proc.devRef .tc main_v98_3) = fun _ => (0#32 : BitVec 32) := by
  rw [E_split, pair_v98_3]

theorem E_v98_4 : E m c (Proc.devRef .tc main_v98_4)
    = fun i : S8x1000.Idx => BitVec.ofBool (start (vals m c) (i 0) (i 1)) := by
  rw [E_split, pair_v98_4 _ _ (at_values m c)]

end Entry

end Cert.ReferenceIdeal.Detect

end
-- ==== Proof.RefLoop.lean ====
/-
  The reference's suppression loop: after `k` trips its mask is that of the candidates still kept after the first `k` of them
  have suppressed others.
-/
module

public import proofs.«01_k».proof.Proof.RefPick
public import Idealize.ShloMosaic.Lib.DynamicIndex

@[expose] public section

set_option maxRecDepth 16384

noncomputable section

namespace Cert.ReferenceIdeal.Detect

open Idealize.ShloMosaic Idealize.ShloMosaic.TcCoe Idealize.ShloMosaic.StableHlo
open Cert.ReferenceIdeal Cert.ReferenceIdeal.Gen Cert.ReferenceIdeal.Value
open Cert.Detect

/-- One slab of a cube, sliced at a number within it. -/
theorem slab {α : Type} (x : S8x1000x1000.Idx → α) (k : Nat) (hk : k < 1000) (st : Fin 3 → Int) (h0 : st 0 = 0) (h1 : st 1 = k)
    (h2 : st 2 = 0) : Host.dynamicSlice S8x1x1000 x st sliceFits_S8x1000x1000_S8x1x1000
      = fun i : S8x1x1000.Idx => x (ix3 (i 0) ⟨k, hk⟩ (i 2)) := by
  rw [Host.dynamicSlice_eq_extractStridedSlice S8x1x1000 x st ![0, k, 0] _
    ⟨rfl, fun a => by
      match a with
      | ⟨0, _⟩ => exact Nat.le_refl 8
      | ⟨1, _⟩ => show k + 1 ≤ 1000; omega
      | ⟨2, _⟩ => exact Nat.le_refl 1000⟩ (fun a => by
      match a with
      | ⟨0, _⟩ => exact h0
      | ⟨1, _⟩ => exact h1
      | ⟨2, _⟩ => exact h2)]
  funext i
  idx_vars i
  obtain rfl := Subsingleton.elim i1 0
  pointwise

/-- One column of a matrix, likewise. -/
theorem column {α : Type} (x : S8x1000.Idx → α) (k : Nat) (hk : k < 1000) (st : Fin 2 → Int) (h0 : st 0 = 0) (h1 : st 1 = k) :
    Host.dynamicSlice S8x1 x st sliceFits_S8x1000_S8x1 = fun i : S8x1.Idx => x (ix2 (i 0) ⟨k, hk⟩) := by
  rw [Host.dynamicSlice_eq_extractStridedSlice S8x1 x st ![0, k] _
    ⟨rfl, fun a => by
      match a with
      | ⟨0, _⟩ => exact Nat.le_refl 8
      | ⟨1, _⟩ => show k + 1 ≤ 1000; omega⟩ (fun a => by
      match a with
      | ⟨0, _⟩ => exact h0
      | ⟨1, _⟩ => exact h1)]
  funext i
  idx_vars i
  obtain rfl := Subsingleton.elim i1 0
  pointwise

theorem later (k : Nat) (hk : k < 1000) (j : Fin 1000) :
    IntOp.cmpi .sgt (BitVec.ofNat 32 j.val) (BitVec.ofNat 32 k) = BitVec.ofBool (decide (k < j.val)) := by
  show BitVec.ofBool ((BitVec.ofNat 32 k).slt (BitVec.ofNat 32 j.val)) = _
  simp only [BitVec.slt, ofNat_toInt k (by omega), ofNat_toInt j.val (by omega), Nat.cast_lt]

theorem mask_bits : ∀ a b c d : Bool, IntOp.andi (BitVec.ofBool a)
    (~~~IntOp.andi (IntOp.andi (BitVec.ofBool b) (BitVec.ofBool c)) (BitVec.ofBool d)) = BitVec.ofBool (a && !(d && b && c)) := by
  decide

/-- One trip's mask. -/
theorem step_mask (V : Valuation τ sig (Elt Ideal)) (iou : Fin 8 → Fin 1000 → Fin 1000 → EReal) (K : Fin 8 → Fin 1000 → Bool)
    (k : Nat) (hk : k < 1000)
    (h0 : V (Proc.devRef .tc main_v98_0) = fun i : S8x1000x1000.Idx => iou (i 0) (i 1) (i 2))
    (h1 : V (Proc.devRef .tc main_v98_1) = iotaInDim S1000 32 0)
    (h3 : V (Proc.devRef .tc main_v98_3) = constantI S_ 32 (BitVec.ofNat 32 k))
    (h4 : V (Proc.devRef .tc main_v98_4) = fun i : S8x1000.Idx => BitVec.ofBool (K (i 0) (i 1))) :
    step_main_v98_4 V = fun i : S8x1000.Idx => BitVec.ofBool (K (i 0) (i 1)
      && !(K (i 0) ⟨k, hk⟩ && decide (Ideal.ofBits .f32 0x3F000000#32 < iou (i 0) ⟨k, hk⟩ (i 1)) && decide (k < (i 1).val))) := by
  unfold step_main_v98_4
  rw [h0, h1, h3, h4, slab _ k hk _ rfl (toInt_wrap_ofNat k (by omega)) rfl,
    column _ k hk _ rfl (toInt_wrap_ofNat k (by omega))]
  funext i
  idx_vars i
  pointwise [id, later k hk]
  exact mask_bits _ _ _ _

/-- The carried buffers after `k` trips. -/
theorem carried (V : Valuation τ sig (Elt Ideal)) (iou : Fin 8 → Fin 1000 → Fin 1000 → EReal) (K : Fin 8 → Fin 1000 → Bool)
    (h0 : V (Proc.devRef .tc main_v98_0) = fun i : S8x1000x1000.Idx => iou (i 0) (i 1) (i 2))
    (h1 : V (Proc.devRef .tc main_v98_1) = iotaInDim S1000 32 0)
    (h3 : V (Proc.devRef .tc main_v98_3) = constantI S_ 32 0#32)
    (h4 : V (Proc.devRef .tc main_v98_4) = fun i : S8x1000.Idx => BitVec.ofBool (K (i 0) (i 1))) :
    ∀ k, k ≤ 1000 →
      (STEP^[k] V) (Proc.devRef .tc main_v98_0) = (fun i : S8x1000x1000.Idx => iou (i 0) (i 1) (i 2))
      ∧ (STEP^[k] V) (Proc.devRef .tc main_v98_1) = iotaInDim S1000 32 0
      ∧ (STEP^[k] V) (Proc.devRef .tc main_v98_3) = constantI S_ 32 (BitVec.ofNat 32 k)
      ∧ (STEP^[k] V) (Proc.devRef .tc main_v98_4) = fun i : S8x1000.Idx => BitVec.ofBool (keep K iou k (i 0) (i 1))
  | 0, _ => ⟨h0, h1, h3, h4⟩
  | k + 1, hk => by
    obtain ⟨g0, g1, g3, g4⟩ := carried V iou K h0 h1 h3 h4 k (by omega)
    rw [Function.iterate_succ_apply']
    generalize STEP^[k] V = U at g0 g1 g3 g4 ⊢
    refine ⟨(STEP_main_v98_0 U).trans g0, (STEP_main_v98_1 U).trans g1, (STEP_main_v98_3 U).trans ?_,
      (STEP_main_v98_4 U).trans ?_⟩
    · unfold step_main_v98_3
      rw [g3]
      funext i
      show BitVec.ofNat 32 k + 1#32 = BitVec.ofNat 32 (k + 1)
      rw [BitVec.ofNat_add]
    · rw [step_mask U iou (keep K iou k) k (by omega) g0 g1 g3 g4]
      funext i
      show _ = BitVec.ofBool (if h : k < 1000 then _ else _)
      rw [dif_pos (by omega)]

/-- The mask the loop leaves. -/
theorem Z_v98_4 (m : (ℓ : Loc nD τ sig) → Buf (Elt Ideal) ℓ) (c : Dev nD) :
    Z m c (Proc.devRef .tc main_v98_4) = keepMask (vals m c) (boxes m c) := by
  rw [show Z m c = after condOps (atK m 1000 c) from rfl, cond_keeps _ main_v98_4 (by decide),
    atK_agree m c 1000 main_v98_4 (by decide)]
  exact (carried (E m c) (ious (boxes m c)) (start (vals m c)) (E_v98_0 m c) (E_v98_1 m c) (E_v98_3 m c) (E_v98_4 m c)
    1000 le_rfl).2.2.2

/-! ### The reference's results as functions of its arguments -/

section Results

variable (m : (ℓ : Loc nD τ sig) → Buf (Elt Ideal) ℓ) (c : Dev nD)

theorem final_v110 : finalContents condOps preI bodyI postI 1000 m c (Proc.devRef .tc main_v110)
    = outB (F := Ideal) (keepMask (vals m c) (boxes m c)) (vals m c) (boxes m c) := by
  rw [final_eq, post_v110, Z_v98_4, Z_keeps m c main_values (by decide +kernel), Z_keeps m c main_v36 (by decide +kernel), E_values, E_v36]

theorem final_v112 : finalContents condOps preI bodyI postI 1000 m c (Proc.devRef .tc main_v112)
    = outS (F := Ideal) (keepMask (vals m c) (boxes m c)) (vals m c) := by
  rw [final_eq, post_v112, Z_v98_4, Z_keeps m c main_values (by decide +kernel), E_values]

theorem final_v122 : finalContents condOps preI bodyI postI 1000 m c (Proc.devRef .tc main_v122)
    = outL (F := Ideal) (keepMask (vals m c) (boxes m c)) (vals m c) (labs m c) := by
  rw [final_eq, post_v122, Z_v98_4, Z_keeps m c main_values (by decide +kernel), Z_keeps m c main_v43 (by decide +kernel), E_values, E_v43]

end Results

end Cert.ReferenceIdeal.Detect

end
-- ==== Proof.NmsPay.lean ====
/-
  The second launch's payloads at an index: the overlaps, the mask it starts from, and one pass of the suppression.
-/
module

public import proofs.«01_k».proof.Proof.Gen.KernelIdeal.Skeleton
public import proofs.«01_k».proof.Proof.PrepPay
public import proofs.«01_k».proof.Proof.RefLoop

@[expose] public section

set_option maxRecDepth 16384

noncomputable section

namespace Cert.KernelIdeal.Detect

open Idealize.ShloMosaic Idealize.ShloMosaic.TcCoe
open Cert.KernelIdeal Cert.KernelIdeal.Gen Cert.Detect

/-- A flag as the number one or zero. -/
def flag (b : Bool) : EReal := if b then 1 else 0

theorem start_pay (v : FVec Ideal S1x1x1000 .f32) (j : Fin 1000) :
    k1_pay2 (F := Ideal) v (ix3 0 0 j) = flag (decide (Ideal.ofBits .f32 0x3D4CCCCD#32 < v (ix3 0 0 j))) := by
  unfold k1_pay2
  pointwise [bits_zero, bits_one]
  simp only [flag, decide_eq_true_eq]

theorem iou_pay (v0 : FVec Ideal S1x1000x4 .f32) (v2 : FVec Ideal S1x4x1000 .f32) (i j : Fin 1000) :
    k1_pay1 (F := Ideal) (k1_pay14 v0 v2) (k1_pay15 v0) (k1_pay16 v2) (ix2 i j)
      = overlap (fun d => v0 (ix3 0 i d)) (fun d => v2 (ix3 0 d j)) := by
  pointwise [k1_pay1, k1_pay14, k1_pay15, k1_pay16, k1_pay4, k1_pay5, k1_pay6, k1_pay7, k1_pay8, k1_pay9, k1_pay10, k1_pay11, k1_pay12, k1_pay13, bits_zero]
  rfl

theorem iv_word (k : ℕ) : Scf.iv 0#32 1#32 k = BitVec.ofNat 32 k := by
  unfold Scf.iv
  simp

theorem word_eq (k : ℕ) (hk : k < 1000) (j : Fin 1000) : BitVec.ofNat 32 j.val = BitVec.ofNat 32 k ↔ j.val = k := by
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

theorem half_lt_flag (b : Bool) : Ideal.ofBits .f32 0x3F000000#32 < flag b ↔ b = true := by
  rw [bits_half]
  cases b
  · simp only [flag, Bool.false_eq_true, if_false, iff_false, not_lt]
    exact_mod_cast (by norm_num : (0 : ℝ) ≤ 1 / 2)
  · simp only [flag, if_true, iff_true]
    exact_mod_cast (by norm_num : (1 / 2 : ℝ) < 1)

/-- The greatest of the lanes that carry the pass's own candidate's flag passes one half exactly when the flag is up. -/
theorem own_flag (K : Fin 1000 → Bool) (k : Fin 1000) (f : Fin 1 × Fin 1000 → EReal)
    (hf : ∀ x, f x = if x.2.val = k.val then flag (K x.2) else 0) :
    Ideal.ofBits .f32 0x3F000000#32 < Finset.fold max (Ideal.ofBits .f32 0xFF800000#32) f Finset.univ ↔ K k = true := by
  rw [Finset.lt_fold_max, bits_bot]
  constructor
  · rintro (h | ⟨x, -, h⟩)
    · exact absurd h not_lt_bot
    · rw [hf] at h
      by_cases e : x.2.val = k.val
      · rw [if_pos e, half_lt_flag, Fin.ext e] at h
        exact h
      · rw [if_neg e] at h
        exact absurd ((half_lt_flag false).mp h) Bool.false_ne_true
  · intro h
    refine .inr ⟨(0, k), Finset.mem_univ _, ?_⟩
    rw [hf, if_pos rfl, half_lt_flag]
    exact h

theorem drop_bits (a b c d : Bool) : (Scalar.select (IntOp.andi (IntOp.andi (BitVec.ofBool b) (BitVec.ofBool c)) (BitVec.ofBool d)) 0 (flag a) : EReal)
    = flag (a && !(d && b && c)) := by
  cases a <;> cases b <;> cases c <;> cases d <;> simp [Scalar.select, IntOp.andi, flag]

/-- One pass: from flags to flags, given the pass's row of overlaps. -/
theorem pass_pay (k : Fin k1_t1_loop.trips) (hk : k.val < 1000) (K : Fin 1000 → Bool) (v : FVec Ideal S1x1x1000 .f32)
    (hv : ∀ j, v (ix3 0 0 j) = flag (K j)) (w : FVec Ideal S1x1000 .f32) (j : Fin 1000) :
    k1_pay3 (F := Ideal) k v w (ix3 0 0 j) = flag (K j && !(K ⟨k.val, hk⟩
      && decide (Ideal.ofBits .f32 0x3F000000#32 < w (ix2 0 j)) && decide (k.val < j.val))) := by
  unfold k1_pay3
  pointwise [bits_zero]
  rw [iv_word, Cert.ReferenceIdeal.Detect.later k.val hk j, hv, drop_bits]
  congr 5
  rw [Bool.eq_iff_iff, decide_eq_true_iff]
  refine own_flag K ⟨k.val, hk⟩ _ fun x => ?_
  rw [select_eq_word]
  have e : v (ix3 0 x.1 x.2) = flag (K x.2) := by rw [← hv x.2, Subsingleton.elim x.1 0]
  rw [e]
  exact if_congr (word_eq k.val hk x.2) rfl rfl

end Cert.KernelIdeal.Detect
-- ==== Proof.NmsValue.lean ====
/-
  What the second launch leaves: the mask of the kept candidates.
-/
module

public import proofs.«01_k».proof.Proof.PrepValue
public import proofs.«01_k».proof.Proof.NmsPay
public import Idealize.ShloMosaic.Lib.VecWindow

@[expose] public section

set_option maxRecDepth 16384

noncomputable section

namespace Cert.KernelIdeal.Detect

open Idealize.ShloMosaic Idealize.ShloMosaic.TcCoe
open Cert.KernelIdeal Cert.KernelIdeal.Gen Cert.Detect

/-! ### The loop of the suppression, at any buffers -/

section
variable (c : Dev nD) (i : grid1.Coords) (a1 : Memref sig .tc .vmem S1x1000x4 .f32) (h1 : a1.IsWhole)
  (a2 : Memref sig .tc .vmem S1x4x1000 .f32) (h2 : a2.IsWhole) (a3 : Memref sig .tc .vmem S1x1x1000 .f32) (h3 : a3.IsWhole)
  (a4 : Memref sig .tc .vmem S1x1x1000 .f32) (h4 : a4.IsWhole) (a5 : Memref sig .tc .vmem S1000x1000 .f32) (h5 : a5.IsWhole)
  (X : BufTy.Contents (Elt Ideal) a5.view.ty)

/-- What one trip leaves: the pass's payload of the flags it finds and of its row of overlaps. -/
theorem trip_read (k : Fin k1_t1_loop.trips) (hk : k.val < 1000) (K : Fin 1000 → Bool) (f : BufTy.Contents (Elt Ideal) a4.view.ty)
    (hf : ∀ j, a4.view.read (Elt Ideal) f (ix3 0 0 j) = flag (K j)) (j : Fin 1000) :
    a4.view.read (Elt Ideal) (a4.view.writes (Elt Ideal) f
      (tripL_k1_t1 (F := Ideal) Variants.none c none i a1 h1 a2 h2 a3 h3 a4 h4 a5 h5 X k f)) (ix3 0 0 j)
      = flag (K j && !(K ⟨k.val, hk⟩ && decide (Ideal.ofBits .f32 0x3F000000#32 < a5.view.read (Elt Ideal) X (ix2 ⟨k.val, hk⟩ j))
        && decide (k.val < j.val))) := by
  unfold tripL_k1_t1 trip_k1_t1
  dsimp only
  refine (congrFun (View.read_writes_full a4.view f inb_S1x1x1000_S1x1x1000_0_0_0 _ []) (ix3 0 0 j)).trans ?_
  refine (pass_pay k hk K _ (fun j => ?_) _ j).trans ?_
  · rw [View.readAt_eq_ld]
    exact (View.ld_unit_apply_of _ _ _ _ _ (ix3 0 0 j) (fun a => by fin_cases a <;> exact (Nat.zero_add _).symm)).trans (hf j)
  · rw [View.readAt_eq_ld]
    rw [View.ld_unit_apply_of _ _ _ _ _ (ix2 (⟨k.val, hk⟩ : Fin 1000) j) (fun a => by
      refine Eq.trans ?_ (congrArg (· + _) (congrFun (k1_off1_eq k) a).symm)
      fin_cases a
      · rfl
      · exact (Nat.zero_add _).symm)]

theorem trips_eq : k1_t1_loop.trips = 1000 := by decide +kernel

/-- The flags after the trips before `k`, by the suppression's own recursion. -/
theorem loop_read (K : Fin 1000 → Bool) (R : Fin 1000 → Fin 1000 → EReal) (hX : ∀ p q, a5.view.read (Elt Ideal) X (ix2 p q) = R p q)
    (G : BufTy.Contents (Elt Ideal) a4.view.ty) (hG : ∀ j, a4.view.read (Elt Ideal) G (ix3 0 0 j) = flag (K j)) (b : Fin 8) :
    ∀ k, k ≤ 1000 → ∀ j, a4.view.read (Elt Ideal) (a4.view.writes (Elt Ideal) G
      (pb_k1_t1 (F := Ideal) Variants.none c none i a1 h1 a2 h2 a3 h3 a4 h4 a5 h5 X G k)) (ix3 0 0 j)
      = flag (keep (fun _ => K) (fun _ => R) k b j)
  | 0, _, j => hG j
  | k + 1, hk, j => by
    have ih := loop_read K R hX G hG b k (by omega)
    have ht : k < k1_t1_loop.trips := by rw [trips_eq]; omega
    rw [pb_k1_t1_succ (F := Ideal) Variants.none c none i a1 h1 a2 h2 a3 h3 a4 h4 a5 h5 X G ⟨k, ht⟩, View.writes_append,
      trip_read c i a1 h1 a2 h2 a3 h3 a4 h4 a5 h5 X ⟨k, ht⟩ (show k < 1000 by omega) _ _ ih j, hX]
    simp only [keep, dif_pos (show k < 1000 by omega)]

end

/-- The suppression of one image depends on that image alone. -/
theorem keep_one (s : Fin 8 → Fin 1000 → Bool) (r : Fin 8 → Fin 1000 → Fin 1000 → EReal) (b : Fin 8) :
    ∀ k j, keep (fun _ => s b) (fun _ => r b) k b j = keep s r k b j
  | 0, _ => rfl
  | k + 1, j => by
    simp only [keep, keep_one s r b k]

/-! ### The second launch's array -/

variable (m : (ℓ : Loc nD τ sig) → Buf (Elt Ideal) ℓ) (ρ : Dev nD → PrngReg) (c : Dev nD)

theorem where1 : ∀ t : Fin cfg1.N, (cfg1.win 0).index t = ![(grid1.coords t 0).val, 0, 0]
    ∧ (cfg1.win 1).index t = ![(grid1.coords t 0).val, 0, 0]
    ∧ (cfg1.win 2).index t = ![(grid1.coords t 0).val, 0, 0]
    ∧ (cfg1.win 3).index t = ![(grid1.coords t 0).val, 0, 0] := by
  decide +kernel

/-- The mask's numbers, from what the launch is given of boxes, of their transpose and of scores. -/
def nums (vals : S8x1000.Idx → EReal) (cb : S8x1000x4.Idx → EReal) : S8x1x1000.Idx → EReal := fun i =>
  flag (keep (start vals) (ious cb) 1000 (i 0) (i 2))

theorem cand_at (t : Fin cfg1.N) (b : Fin 8) (eb : b.val = (grid1.coords t 0).val) (p : Fin 1000) (d : Fin 4) :
    iblk1 (V5 m ρ) c 0 t (ix3 0 p d) = (V5 m ρ c main_v4 : S8x1000x4.Idx → EReal) (ix3 b p d) := by
  blk_ext [iblk1, (where1 t).1]

theorem turned_at (t : Fin cfg1.N) (b : Fin 8) (eb : b.val = (grid1.coords t 0).val) (d : Fin 4) (q : Fin 1000) :
    iblk1 (V5 m ρ) c 1 t (ix3 0 d q) = (V5 m ρ c main_v6 : S8x4x1000.Idx → EReal) (ix3 b d q) := by
  blk_ext [iblk1, (where1 t).2.1]

theorem score_at (t : Fin cfg1.N) (b : Fin 8) (eb : b.val = (grid1.coords t 0).val) (q : Fin 1000) :
    iblk1 (V5 m ρ) c 2 t (ix3 0 0 q) = (V5 m ρ c main_v7 : S8x1x1000.Idx → EReal) (ix3 b 0 q) := by
  blk_ext [iblk1, (where1 t).2.2.1]

theorem kept_point (vals : S8x1000.Idx → EReal) (cb : S8x1000x4.Idx → EReal)
    (hb : V5 m ρ c main_v4 = cb) (ht : V5 m ρ c main_v6 = fun i : S8x4x1000.Idx => cb (ix3 (i 0) (i 2) (i 1)))
    (hv : V5 m ρ c main_v7 = fun i : S8x1x1000.Idx => vals (ix2 (i 0) (i 2)))
    (t : Fin cfg1.N) (b : Fin 8) (eb : b.val = (grid1.coords t 0).val) (j : Fin 1000) :
    outsAt1 (V5 m ρ) c t (ix3 0 0 j) = flag (keep (start vals) (ious cb) 1000 b j) := by
  unfold outsAt1
  frame_out
  rw [← View.read_writes_junk_eq_canon (ms1_3 t).view, View.writes_append]
  rw [← keep_one]
  refine loop_read c _ _ _ _ _ _ _ _ _ _ _ _ (start vals b) (ious cb b) (fun p q => ?_) _ (fun q => ?_) b 1000 le_rfl j
  · refine (congrFun (View.read_writes_full scM1_0.view _ inb_S1000x1000_S1000x1000_0_0 _ []) (ix2 p q)).trans
      ((iou_pay _ _ p q).trans ?_)
    unfold ious
    refine congr (congrArg overlap (funext fun d => ?_)) (funext fun d => ?_)
    · rw [cand_at m ρ c t b eb, hb]
    · rw [turned_at m ρ c t b eb, ht]
      rfl
  · refine (congrFun (View.read_writes_full (ms1_3 t).view _ inb_S1x1x1000_S1x1x1000_0_0_0 _ []) (ix3 0 0 q)).trans
      ((start_pay _ q).trans ?_)
    rw [score_at m ρ c t b eb, hv]
    rfl

theorem kept_arr (vals : S8x1000.Idx → EReal) (cb : S8x1000x4.Idx → EReal)
    (hb : V5 m ρ c main_v4 = cb) (ht : V5 m ρ c main_v6 = fun i : S8x4x1000.Idx => cb (ix3 (i 0) (i 2) (i 1)))
    (hv : V5 m ρ c main_v7 = fun i : S8x1x1000.Idx => vals (ix2 (i 0) (i 2))) : (dat1 (V5 m ρ) c).arrAt 3 cfg1.N = nums vals cb := by
  refine (dat1 (V5 m ρ) c).arrAt_eq_of_covers 3 _ (by decide +kernel) fun t hf y => ?_
  blk_simp
  rw [after1_3]
  refine (congrArg (outsAt1 (V5 m ρ) c t) (?_ : _ = ix3 0 0 (y 2))).trans
    ((kept_point m ρ c vals cb hb ht hv t ⟨(grid1.coords t 0).val, (grid1.coords t 0).isLt⟩ rfl (y 2)).trans ?_)
  · funext a
    fin_cases a
    · exact Subsingleton.elim (α := Fin 1) _ _
    · exact Subsingleton.elim (α := Fin 1) _ _
    · rfl
  · unfold nums
    refine congrArg flag (congr (congrArg (keep (start vals) (ious cb) 1000) ?_) ?_)
    · exact Fin.ext (by blk_simp [(where1 t).2.2.2])
    · exact Fin.ext (by blk_simp [(where1 t).2.2.2])

/-- The mask of the kept candidates, by the suppression's own recursion. -/
theorem mask_eq : mask m ρ c = keepMask (topV (F := Ideal) (sc m ρ c)) (candB (F := Ideal) (bx m ρ c) (sc m ρ c)) := by
  have e : W6 m ρ c (Proc.devRef .tc main_v8) = nums (topV (F := Ideal) (sc m ρ c)) (candB (F := Ideal) (bx m ρ c) (sc m ρ c)) := by
    refine (W6_arr m ρ c 3).trans (kept_arr m ρ c _ _ (W5_v4 m ρ c) ((W5_v6 m ρ c).trans ?_) ((W5_v7 m ρ c).trans ?_))
    · funext i
      idx_vars i
      pointwise
    · funext i
      idx_vars i
      pointwise
  unfold mask
  rw [e]
  generalize topV (F := Ideal) (sc m ρ c) = vals
  generalize candB (F := Ideal) (bx m ρ c) (sc m ρ c) = cb
  funext i
  idx_vars i
  pointwise [nums, keepMask]
  exact congrArg BitVec.ofBool (Bool.eq_iff_iff.mpr (decide_eq_true_iff.trans (half_lt_flag _)))

end Cert.KernelIdeal.Detect
-- ==== Proof.Ends.lean ====
/-
  The two programs' results as one function of the arguments, and the reference's frame.
-/
module

public import proofs.«01_k».proof.Defs
public import proofs.«01_k».proof.Proof.KernelRun
public import proofs.«01_k».proof.Proof.NmsValue
public import proofs.«01_k».proof.Proof.RefLoop
public import proofs.«01_k».proof.Proof.Gen.Pre_sizes_nonnegative
public import Idealize.ShloMosaic.Lib.Quiescent
public import Idealize.ShloMosaic.Lib.ReduceAll

@[expose] public section

set_option maxRecDepth 16384

noncomputable section

namespace Cert.Detect

open Idealize.ShloMosaic Idealize.ShloMosaic.TcCoe Idealize.SL.Sem

/-- The precondition read: every image size is nonnegative. -/
theorem sizes_of_pre (m : (ℓ : Loc Cert.KernelIdeal.nD Cert.KernelIdeal.τ Cert.KernelIdeal.sig) → Buf (Elt Ideal) ℓ)
    (h : Cert.Pre_KernelIdeal_sizes_nonnegative (hPre_sizes_nonnegative := Cert.Pre_sizes_nonnegative.Gen.facts) m)
    (c : Dev Cert.KernelIdeal.nD) (i : Cert.KernelIdeal.S8x2.Idx) : 0 ≤ Cert.KernelIdeal.Detect.inZ m c i := by
  have e := congrFun (h c) (fun a => Fin.elim0 a)
  unfold Cert.Pre_sizes_nonnegative.fn at e
  dsimp only at e
  have : Subsingleton Cert.Pre_sizes_nonnegative.S_.Idx := ⟨fun _ _ => funext fun a => Fin.elim0 a⟩
  have e1 := Host.reduce_andi_all _ _ _ _ _ e i
  have e2 : BitVec.ofBool (decide (Ideal.ofBits .f32 0x00000000#32 ≤ Cert.KernelIdeal.Detect.inZ m c i)) = 1#1 := e1
  rw [bits_zero] at e2
  by_contra hn
  rw [decide_eq_false hn] at e2
  exact absurd e2 (by decide)

/-! ### The results, from boxes, class scores and sizes -/

section
variable (x : Cert.KernelIdeal.S8x20000x4.Idx → EReal) (s : Cert.KernelIdeal.S8x20000x80.Idx → EReal) (z : Cert.KernelIdeal.S8x2.Idx → EReal)

/-- The candidates' scores, boxes and labels. -/
def candidates : FVec Ideal Cert.KernelIdeal.S8x1000 .f32 := topV (F := Ideal) (scores s)
def candidateBoxes : FVec Ideal Cert.KernelIdeal.S8x1000x4 .f32 := candB (F := Ideal) (clipped x z) (scores s)
def candidateLabels : IVec Cert.KernelIdeal.S8x1000 32 := candL (F := Ideal) (labels s) (scores s)

/-- The result boxes, scores and labels. -/
def resultBoxes : FVec Ideal Cert.KernelIdeal.S8x300x4 .f32 :=
  outB (F := Ideal) (keepMask (candidates s) (candidateBoxes x s z)) (candidates s) (candidateBoxes x s z)
def resultScores : FVec Ideal Cert.KernelIdeal.S8x300x1 .f32 :=
  outS (F := Ideal) (keepMask (candidates s) (candidateBoxes x s z)) (candidates s)
def resultLabels : FVec Ideal Cert.KernelIdeal.S8x300x1 .f32 :=
  outL (F := Ideal) (keepMask (candidates s) (candidateBoxes x s z)) (candidates s) (candidateLabels s)
end

end Cert.Detect

namespace Cert.KernelIdeal.Detect

open Idealize.ShloMosaic Idealize.ShloMosaic.TcCoe Idealize.SL.Sem
open Cert.KernelIdeal Cert.KernelIdeal.Gen Cert.Detect

variable (m : (ℓ : Loc nD τ sig) → Buf (Elt Ideal) ℓ) (ρ : Dev nD → PrngReg)

/-- The kernel's run: its three results are those functions of its arguments, where the sizes are nonnegative. -/
theorem ends (hz : ∀ c i, 0 ≤ inZ m c i) : θ_run defs (onTc (τ := τ) (main (F := Ideal))) ⟨m, fun _ => 0, ρ⟩ (fun r => ∀ c : Dev nD,
      r.2.mem ((c.tc : Thread nD τ).loc main_v18) = resultBoxes (inX m c) (inC m c) (inZ m c)
      ∧ r.2.mem ((c.tc : Thread nD τ).loc main_v20) = resultScores (inX m c) (inC m c) (inZ m c)
      ∧ r.2.mem ((c.tc : Thread nD τ).loc main_v24) = resultLabels (inX m c) (inC m c) (inZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  obtain ⟨e0, e1, e2, e3⟩ := h c
  refine ⟨e0.trans ?_, e1.trans ?_, e2.trans ?_, e3⟩
  · rw [W19_v18, mask_eq, bx_eq m ρ c (hz c), sc_eq]
    rfl
  · rw [W19_v20, mask_eq, bx_eq m ρ c (hz c), sc_eq]
    rfl
  · rw [W19_v24, mask_eq, bx_eq m ρ c (hz c), sc_eq, lb_eq]
    rfl

end Cert.KernelIdeal.Detect

namespace Cert.ReferenceIdeal.Detect

open Idealize.ShloMosaic Idealize.ShloMosaic.TcCoe Idealize.SL.Sem
open Cert.ReferenceIdeal Cert.ReferenceIdeal.Gen Cert.ReferenceIdeal.Value Cert.Detect

variable (m : (ℓ : Loc nD τ sig) → Buf (Elt Ideal) ℓ) (ρ : Dev nD → PrngReg)

/-- The reference's run: the same functions of its arguments. -/
theorem ends : θ_run defs (onTc (τ := τ) (main (F := Ideal))) ⟨m, fun _ => 0, ρ⟩ (fun r => ∀ c : Dev nD,
      r.2.mem ((c.tc : Thread nD τ).loc main_v110) = resultBoxes (argX m c) (argC m c) (argZ m c)
      ∧ r.2.mem ((c.tc : Thread nD τ).loc main_v112) = resultScores (argX m c) (argC m c) (argZ m c)
      ∧ r.2.mem ((c.tc : Thread nD τ).loc main_v122) = resultLabels (argX m c) (argC m c) (argZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c main_v110 rfl).trans (final_v110 m c), (h c main_v112 rfl).trans (final_v112 m c),
    (h c main_v122 rfl).trans (final_v122 m c), (h c main_arg0 rfl).trans (final_arg m c main_arg0 (.inl rfl)),
    (h c main_arg1 rfl).trans (final_arg m c main_arg1 (.inr (.inl rfl))),
    (h c main_arg2 rfl).trans (final_arg m c main_arg2 (.inr (.inr rfl)))⟩) (run_fold m ρ)

/-- The reference terminates, leaves its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2, sem_eq_zero_of_no_sems (by decide) r.2⟩) (ends m ρ)

end Cert.ReferenceIdeal.Detect
-- ==== Proof.lean ====
/-
  The certificate: the frames of the kernel, of its ideal reading and of the reference, and the equality of the three results
  of the last two, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sizes_nonnegative
public import proofs.«01_k».proof.Proof.Ends
public import Idealize.ShloMosaic.Adequacy
public import Idealize.ShloMosaic.Init

@[expose] public section

noncomputable section

namespace Cert.Proof

open Idealize.ShloMosaic Idealize.SL.Sem Cert.Kernel

/-- From memories that agree on the arguments, the sizes nonnegative, the two programs end with equal results. -/
theorem equal_results : Cert.algebraic_KernelIdeal_ReferenceIdeal_pre_sizes_nonnegative (hKernelIdeal := Cert.KernelIdeal.Gen.facts)
    (hReferenceIdeal := Cert.ReferenceIdeal.Gen.facts) (hPre_sizes_nonnegative := Cert.Pre_sizes_nonnegative.Gen.facts) := by
  intro m g m' g' hpre hargs
  refine ⟨_, _, _, Cert.KernelIdeal.Detect.ends m g (Cert.Detect.sizes_of_pre m hpre), ?_⟩
  refine (θ_run _ _ _).mono (fun r h c => ?_) (Cert.ReferenceIdeal.Detect.ends m' g')
  obtain ⟨e0, e1, e2, e3⟩ := h c
  obtain ⟨a0, a1, a2⟩ := hargs c
  have b0 : Cert.ReferenceIdeal.Detect.argX m' c = Cert.KernelIdeal.Detect.inX m c := a0
  have b1 : Cert.ReferenceIdeal.Detect.argC m' c = Cert.KernelIdeal.Detect.inC m c := a1
  have b2 : Cert.ReferenceIdeal.Detect.argZ m' c = Cert.KernelIdeal.Detect.inZ m c := a2
  rw [b0, b1, b2] at e0 e1 e2
  exact ⟨e0, e1, e2, e3⟩

theorem claim : Cert.Claim := ⟨Cert.Kernel.Gen.facts, Cert.KernelIdeal.Gen.facts, Cert.ReferenceIdeal.Gen.facts, Cert.Pre_sizes_nonnegative.Gen.facts,
  fun m g _ => Cert.Kernel.Gen.frame m g, fun m g _ => Cert.KernelIdeal.Gen.frame m g, fun m g _ => Cert.KernelIdeal.Gen.frame m g,
  fun m g _ => Cert.ReferenceIdeal.Detect.frame m g, fun m g _ => Cert.ReferenceIdeal.Detect.frame m g, trivial, equal_results⟩

end Cert.Proof

end
